-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_no_zero_roi [hPre_finite_and_no_zero_roi : Cert.Pre_finite_and_no_zero_roi.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_no_zero_roi.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_no_zero_roi [hPre_finite_and_no_zero_roi : Cert.Pre_finite_and_no_zero_roi.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_no_zero_roi.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_no_zero_roi [hKernelIdeal : Cert.KernelIdeal.Facts] [hPre_finite_and_no_zero_roi : Cert.Pre_finite_and_no_zero_roi.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_no_zero_roi m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_no_zero_roi [hReferenceIdeal : Cert.ReferenceIdeal.Facts] [hPre_finite_and_no_zero_roi : Cert.Pre_finite_and_no_zero_roi.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_no_zero_roi m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_and_no_zero_roi [hKernelIdeal : Cert.KernelIdeal.Facts] [hReferenceIdeal : Cert.ReferenceIdeal.Facts] [hPre_finite_and_no_zero_roi : Cert.Pre_finite_and_no_zero_roi.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_no_zero_roi m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_and_no_zero_roi : Cert.Pre_finite_and_no_zero_roi.Facts),
    quiescent_Kernel (hKernel := hKernel)
    ∧ quiescent_KernelIdeal (hKernelIdeal := hKernelIdeal)
    ∧ quiescent_KernelIdeal_pre_finite_and_no_zero_roi (hKernelIdeal := hKernelIdeal) (hPre_finite_and_no_zero_roi := hPre_finite_and_no_zero_roi)
    ∧ quiescent_ReferenceIdeal (hReferenceIdeal := hReferenceIdeal)
    ∧ quiescent_ReferenceIdeal_pre_finite_and_no_zero_roi (hReferenceIdeal := hReferenceIdeal) (hPre_finite_and_no_zero_roi := hPre_finite_and_no_zero_roi)
    ∧ preserves_Kernel_KernelIdeal
    ∧ algebraic_KernelIdeal_ReferenceIdeal_pre_finite_and_no_zero_roi (hKernelIdeal := hKernelIdeal) (hReferenceIdeal := hReferenceIdeal) (hPre_finite_and_no_zero_roi := hPre_finite_and_no_zero_roi)
-- ==== Pre_finite_and_no_zero_roi.lean ====
abbrev S1x64x64x64 : Shape := ⟨4, ![1, 64, 64, 64]⟩
abbrev S1x10000x4 : Shape := ⟨3, ![1, 10000, 4]⟩
abbrev S_ : Shape := ⟨0, ![]⟩
abbrev S1x10000 : Shape := ⟨2, ![1, 10000]⟩

class Facts : Prop where
  bcast_S_S1x64x64x64 : S_.BroadcastsInDim S1x64x64x64 (![] : Fin 0 → Fin S1x64x64x64.rank)
  reducesTo_S1x64x64x64_S_d0_1_2_3 : S1x64x64x64.ReducesTo [0, 1, 2, 3] S_
  h_S_ : 0 < S_.numel
  bcast_S_S1x10000x4 : S_.BroadcastsInDim S1x10000x4 (![] : Fin 0 → Fin S1x10000x4.rank)
  reducesTo_S1x10000x4_S1x10000_d2 : S1x10000x4.ReducesTo [2] S1x10000
  reducesTo_S1x10000_S_d0_1 : S1x10000.ReducesTo [0, 1] S_

variable [Facts]

def fn {F : FTy → Type} [FloatOps F] (main_arg0 : FVec F S1x64x64x64 .f32) (main_arg1 : IVec S1x10000x4 32) : IVec S_ 1 :=
  let main_v0 : FVec F S1x64x64x64 .f32 := Host.absf main_arg0
  let main_cst : FVec F S_ .f32 := constant S_ .f32 0x7F800000#32
  let main_v1 : FVec F S1x64x64x64 .f32 := broadcastInDim S1x64x64x64 ![] bcast_S_S1x64x64x64 main_cst
  let main_v2 : IVec S1x64x64x64 1 := cmpf .olt main_v0 main_v1
  let main_c : IVec S_ 1 := constantI S_ 1 1#1
  let main_v3 : IVec S_ 1 := (fun x v => Host.reduce IntOp.andi x v reducesTo_S1x64x64x64_S_d0_1_2_3 h_S_) main_v2 main_c
  let main_c_0 : IVec S_ 32 := constantI S_ 32 0#32
  let main_v4 : IVec S1x10000x4 32 := broadcastInDim S1x10000x4 ![] bcast_S_S1x10000x4 main_c_0
  let main_v5 : IVec S1x10000x4 1 := cmpi .ne main_arg1 main_v4
  let main_c_1 : IVec S_ 1 := constantI S_ 1 0#1
  let main_v6 : IVec S1x10000 1 := (fun x v => Host.reduce IntOp.ori x v reducesTo_S1x10000x4_S1x10000_d2 h_S_) main_v5 main_c_1
  let main_c_2 : IVec S_ 1 := constantI S_ 1 1#1
  let main_v7 : IVec S_ 1 := (fun x v => Host.reduce IntOp.andi x v reducesTo_S1x10000_S_d0_1 h_S_) main_v6 main_c_2
  let main_v8 : IVec S_ 1 := andi main_v3 main_v7
  main_v8
-- ==== Kernel.lean ====
abbrev S1x64x64x64 : Shape := ⟨4, ![1, 64, 64, 64]⟩
abbrev S1x10000x4 : Shape := ⟨3, ![1, 10000, 4]⟩
abbrev S64x64x64 : Shape := ⟨3, ![64, 64, 64]⟩
abbrev S64x64x4x16 : Shape := ⟨4, ![64, 64, 4, 16]⟩
abbrev S4x64x64x16 : Shape := ⟨4, ![4, 64, 64, 16]⟩
abbrev S10000x4 : Shape := ⟨2, ![10000, 4]⟩
abbrev S8x1250x4 : Shape := ⟨3, ![8, 1250, 4]⟩
abbrev S_ : Shape := ⟨0, ![]⟩
abbrev S8x1250x16 : Shape := ⟨3, ![8, 1250, 16]⟩
abbrev S10000x7x7x4x16 : Shape := ⟨5, ![10000, 7, 7, 4, 16]⟩
abbrev S64x64x16 : Shape := ⟨3, ![64, 64, 16]⟩
abbrev S1250x16 : Shape := ⟨2, ![1250, 16]⟩
abbrev S2x16x7x7x16 : Shape := ⟨5, ![2, 16, 7, 7, 16]⟩
abbrev S1x64x64x16 : Shape := ⟨4, ![1, 64, 64, 16]⟩
abbrev S1x1250x16 : Shape := ⟨3, ![1, 1250, 16]⟩
abbrev S16 : Shape := ⟨1, ![16]⟩
abbrev S1x16x7x7x16 : Shape := ⟨5, ![1, 16, 7, 7, 16]⟩
abbrev S16x7x7x16 : Shape := ⟨4, ![16, 7, 7, 16]⟩
abbrev S16x7x7x1x16 : Shape := ⟨5, ![16, 7, 7, 1, 16]⟩
abbrev S1x16 : Shape := ⟨2, ![1, 16]⟩
abbrev S1 : Shape := ⟨1, ![1]⟩
abbrev S1x1x16 : Shape := ⟨3, ![1, 1, 16]⟩
abbrev S1x1x1x1x16 : Shape := ⟨5, ![1, 1, 1, 1, 16]⟩
abbrev S1x2x7x7x16 : Shape := ⟨5, ![1, 2, 7, 7, 16]⟩
abbrev S2x7x7x16 : Shape := ⟨4, ![2, 7, 7, 16]⟩
abbrev S2x7x7x1x16 : Shape := ⟨5, ![2, 7, 7, 1, 16]⟩
abbrev S1x10000x7x7x64 : Shape := ⟨5, ![1, 10000, 7, 7, 64]⟩

abbrev nBuf : Table → Nat
  | .hbm => 12
  | .local .scVector .vmem => 3
  | _ => 0

abbrev bufTy : (tb : Table) → Fin (nBuf tb) → BufTy
  | .hbm, ⟨0, _⟩ => ⟨S1x64x64x64, .f32⟩
  | .hbm, ⟨1, _⟩ => ⟨S1x10000x4, .i32⟩
  | .hbm, ⟨2, _⟩ => ⟨S64x64x64, .f32⟩
  | .hbm, ⟨3, _⟩ => ⟨S64x64x4x16, .f32⟩
  | .hbm, ⟨4, _⟩ => ⟨S4x64x64x16, .f32⟩
  | .hbm, ⟨5, _⟩ => ⟨S10000x4, .i32⟩
  | .hbm, ⟨6, _⟩ => ⟨S8x1250x4, .i32⟩
  | .hbm, ⟨7, _⟩ => ⟨S_, .i32⟩
  | .hbm, ⟨8, _⟩ => ⟨S_, .i32⟩
  | .hbm, ⟨9, _⟩ => ⟨S8x1250x16, .i32⟩
  | .hbm, ⟨10, _⟩ => ⟨S10000x7x7x4x16, .f32⟩
  | .hbm, ⟨11, _⟩ => ⟨S1x10000x7x7x64, .f32⟩
  | .local .scVector .vmem, ⟨0, _⟩ => ⟨S64x64x16, .f32⟩
  | .local .scVector .vmem, ⟨1, _⟩ => ⟨S1250x16, .i32⟩
  | .local .scVector .vmem, ⟨2, _⟩ => ⟨S2x16x7x7x16, .f32⟩
  | _, _ => ⟨S1x64x64x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v2_scv : Ref sig .scVector := ⟨.hbm, 4, rfl⟩
abbrev main_v5_scv : Ref sig .scVector := ⟨.hbm, 9, rfl⟩
abbrev main_v6_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_81_r0 : BitVec 32 := 0#32
  let c0_i32_82_r0 : BitVec 32 := 0#32
  let c0_i32_83_r0 : BitVec 32 := 0#32
  ![v18.toNat, 0, 0, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32_81_r1 : BitVec 32 := 0#32
  let c0_i32_82_r1 : BitVec 32 := 0#32
  ![v28.toNat, 0, 0]
@[reducible] def k0_t1_loop : Scf.Loop 32 :=
  let c0_i32_12 : BitVec 32 := 0#32
  let c39_i32 : BitVec 32 := 39#32
  let v38 : BitVec 32 := Scalar.addi c0_i32_12 c39_i32
  let c1_i32_13 : BitVec 32 := 1#32
  ⟨c0_i32_12, v38, c1_i32_13⟩
def k0_cond1 (k0_t1 : Fin k0_t1_loop.trips) : BitVec 1 :=
  let c0_i32_12 : BitVec 32 := 0#32
  let c1_i32_13 : BitVec 32 := 1#32
  let arg10 : BitVec 32 := Scf.iv c0_i32_12 c1_i32_13 k0_t1
  let c1_i32_82 : BitVec 32 := 1#32
  let v79 : BitVec 1 := Scalar.cmpi .sge arg10 c1_i32_82
  let v80 : BitVec 32 := Scalar.extui v79
  let c0_i32_83 : BitVec 32 := 0#32
  let v81 : BitVec 1 := Scalar.cmpi .ne v80 c0_i32_83
  v81

def k0_off3 (i : grid0.Coords) (k0_t1 : Fin k0_t1_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1250_i32 : BitVec 32 := 1250#32
  let v29 : BitVec 32 := Scalar.muli v28 c1250_i32
  let c2_i32_81 : BitVec 32 := 2#32
  let c0_i32_12 : BitVec 32 := 0#32
  let c1_i32_13 : BitVec 32 := 1#32
  let arg10 : BitVec 32 := Scf.iv c0_i32_12 c1_i32_13 k0_t1
  let v78 : BitVec 32 := Scalar.muli c2_i32_81 arg10
  let c2_i32_130 : BitVec 32 := 2#32
  let v111 : BitVec 32 := Scalar.subi v78 c2_i32_130
  let c16_i32_131 : BitVec 32 := 16#32
  let v112 : BitVec 32 := Scalar.muli v111 c16_i32_131
  let v113 : BitVec 32 := Scalar.addi v29 v112
  let c0_i32_137 : BitVec 32 := 0#32
  let c0_i32_138 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_139 : BitVec 32 := 0#32
  ![v113.toNat, 0, 0, v18.toNat, 0]
@[reducible] def k0_t2_loop : Scf.Loop 32 :=
  let c0_i32_85 : BitVec 32 := 0#32
  let c16_i32 : BitVec 32 := 16#32
  let v82 : BitVec 32 := Scalar.addi c0_i32_85 c16_i32
  let c1_i32_86 : BitVec 32 := 1#32
  ⟨c0_i32_85, v82, c1_i32_86⟩
def k0_off4 (k0_t1 : Fin k0_t1_loop.trips) (k0_t2 : Fin k0_t2_loop.trips) : Fin 2 → Nat :=
  let c2_i32_81 : BitVec 32 := 2#32
  let c0_i32_12 : BitVec 32 := 0#32
  let c1_i32_13 : BitVec 32 := 1#32
  let arg10 : BitVec 32 := Scf.iv c0_i32_12 c1_i32_13 k0_t1
  let v78 : BitVec 32 := Scalar.muli c2_i32_81 arg10
  let c16_i32_130 : BitVec 32 := 16#32
  let v111 : BitVec 32 := Scalar.muli v78 c16_i32_130
  let c0_i32_85 : BitVec 32 := 0#32
  let c1_i32_86 : BitVec 32 := 1#32
  let arg12 : BitVec 32 := Scf.iv c0_i32_85 c1_i32_86 k0_t2
  let v112 : BitVec 32 := Scalar.addi v111 arg12
  let v113 : Index := Scalar.indexCast v112
  let c0 : Index := 0#32
  ![v113.toNat, 0]
@[reducible] def k0_t3_loop : Scf.Loop 32 :=
  let c0_i32_143 : BitVec 32 := 0#32
  let c7_i32_144 : BitVec 32 := 7#32
  let v165 : BitVec 32 := Scalar.addi c0_i32_143 c7_i32_144
  let c1_i32_145 : BitVec 32 := 1#32
  ⟨c0_i32_143, v165, c1_i32_145⟩
@[reducible] def k0_t4_loop : Scf.Loop 32 :=
  let c0_i32_154 : BitVec 32 := 0#32
  let c7_i32_155 : BitVec 32 := 7#32
  let v207 : BitVec 32 := Scalar.addi c0_i32_154 c7_i32_155
  let c1_i32_156 : BitVec 32 := 1#32
  ⟨c0_i32_154, v207, c1_i32_156⟩
def k0_off5 (v173 : BitVec 32) (v216 : BitVec 32) : Fin 3 → Nat :=
  let v251 : Index := Scalar.indexCast v173
  let v252 : Index := Scalar.indexCast v216
  let c0_171 : Index := 0#32
  ![v251.toNat, v252.toNat, 0]

def k0_off6 (v173 : BitVec 32) (v224 : BitVec 32) : Fin 3 → Nat :=
  let v255 : Index := Scalar.indexCast v173
  let v256 : Index := Scalar.indexCast v224
  let c0_172 : Index := 0#32
  ![v255.toNat, v256.toNat, 0]

def k0_off7 (v180 : BitVec 32) (v216 : BitVec 32) : Fin 3 → Nat :=
  let v259 : Index := Scalar.indexCast v180
  let v260 : Index := Scalar.indexCast v216
  let c0_173 : Index := 0#32
  ![v259.toNat, v260.toNat, 0]

def k0_chk1 (v173 : BitVec 32) (v180 : BitVec 32) (v216 : BitVec 32) : Prop :=
  (∀ a, (k0_off5 v173 v216) a + S1x1x16.size a ≤ S64x64x16.size a) ∧
  (∀ a, (k0_off7 v180 v216) a + S1x1x16.size a ≤ S64x64x16.size a)
theorem k0_off5_inb : ∀ (v173 : BitVec 32) (v180 : BitVec 32) (v216 : BitVec 32) (k0_hw1 : k0_chk1 v173 v180 v216), ∀ a, (k0_off5 v173 v216) a + S1x1x16.size a ≤ S64x64x16.size a := fun v173 v180 v216 k0_hw1 => k0_hw1.1
theorem k0_off7_inb : ∀ (v173 : BitVec 32) (v180 : BitVec 32) (v216 : BitVec 32) (k0_hw1 : k0_chk1 v173 v180 v216), ∀ a, (k0_off7 v180 v216) a + S1x1x16.size a ≤ S64x64x16.size a := fun v173 v180 v216 k0_hw1 => k0_hw1.2

def k0_off8 (v180 : BitVec 32) (v224 : BitVec 32) : Fin 3 → Nat :=
  let v263 : Index := Scalar.indexCast v180
  let v264 : Index := Scalar.indexCast v224
  let c0_174 : Index := 0#32
  ![v263.toNat, v264.toNat, 0]

def k0_chk2 (v173 : BitVec 32) (v180 : BitVec 32) (v224 : BitVec 32) : Prop :=
  (∀ a, (k0_off6 v173 v224) a + S1x1x16.size a ≤ S64x64x16.size a) ∧
  (∀ a, (k0_off8 v180 v224) a + S1x1x16.size a ≤ S64x64x16.size a)
theorem k0_off6_inb : ∀ (v173 : BitVec 32) (v180 : BitVec 32) (v224 : BitVec 32) (k0_hw2 : k0_chk2 v173 v180 v224), ∀ a, (k0_off6 v173 v224) a + S1x1x16.size a ≤ S64x64x16.size a := fun v173 v180 v224 k0_hw2 => k0_hw2.1
theorem k0_off8_inb : ∀ (v173 : BitVec 32) (v180 : BitVec 32) (v224 : BitVec 32) (k0_hw2 : k0_chk2 v173 v180 v224), ∀ a, (k0_off8 v180 v224) a + S1x1x16.size a ≤ S64x64x16.size a := fun v173 v180 v224 k0_hw2 => k0_hw2.2

def k0_off9 (k0_t2 : Fin k0_t2_loop.trips) (k0_t3 : Fin k0_t3_loop.trips) (k0_t4 : Fin k0_t4_loop.trips) : Fin 5 → Nat :=
  let c0_i32_175 : BitVec 32 := 0#32
  let v279 : Index := Scalar.indexCast c0_i32_175
  let c0_i32_85 : BitVec 32 := 0#32
  let c1_i32_86 : BitVec 32 := 1#32
  let arg12 : BitVec 32 := Scf.iv c0_i32_85 c1_i32_86 k0_t2
  let v280 : Index := Scalar.indexCast arg12
  let c0_i32_143 : BitVec 32 := 0#32
  let c1_i32_145 : BitVec 32 := 1#32
  let arg14 : BitVec 32 := Scf.iv c0_i32_143 c1_i32_145 k0_t3
  let v281 : Index := Scalar.indexCast arg14
  let c0_i32_154 : BitVec 32 := 0#32
  let c1_i32_156 : BitVec 32 := 1#32
  let arg16 : BitVec 32 := Scf.iv c0_i32_154 c1_i32_156 k0_t4
  let v282 : Index := Scalar.indexCast arg16
  let c0_176 : Index := 0#32
  ![0, v280.toNat, v281.toNat, v282.toNat, 0]
def k0_off10 (i : grid0.Coords) (k0_t1 : Fin k0_t1_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1250_i32 : BitVec 32 := 1250#32
  let v29 : BitVec 32 := Scalar.muli v28 c1250_i32
  let c2_i32_81 : BitVec 32 := 2#32
  let c0_i32_12 : BitVec 32 := 0#32
  let c1_i32_13 : BitVec 32 := 1#32
  let arg10 : BitVec 32 := Scf.iv c0_i32_12 c1_i32_13 k0_t1
  let v78 : BitVec 32 := Scalar.muli c2_i32_81 arg10
  let c16_i32_88 : BitVec 32 := 16#32
  let v84 : BitVec 32 := Scalar.muli v78 c16_i32_88
  let v85 : BitVec 32 := Scalar.addi v29 v84
  let c0_i32_94 : BitVec 32 := 0#32
  let c0_i32_95 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_96 : BitVec 32 := 0#32
  ![v85.toNat, 0, 0, v18.toNat, 0]
def k0_cond2 (k0_t1 : Fin k0_t1_loop.trips) : BitVec 1 :=
  let c0_i32_12 : BitVec 32 := 0#32
  let c1_i32_13 : BitVec 32 := 1#32
  let arg10 : BitVec 32 := Scf.iv c0_i32_12 c1_i32_13 k0_t1
  let c1_i32_106 : BitVec 32 := 1#32
  let v96 : BitVec 1 := Scalar.cmpi .sge arg10 c1_i32_106
  let v97 : BitVec 32 := Scalar.extui v96
  let c0_i32_107 : BitVec 32 := 0#32
  let v98 : BitVec 1 := Scalar.cmpi .ne v97 c0_i32_107
  v98

def k0_off11 (i : grid0.Coords) (k0_t1 : Fin k0_t1_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1250_i32 : BitVec 32 := 1250#32
  let v29 : BitVec 32 := Scalar.muli v28 c1250_i32
  let c2_i32_104 : BitVec 32 := 2#32
  let c0_i32_12 : BitVec 32 := 0#32
  let c1_i32_13 : BitVec 32 := 1#32
  let arg10 : BitVec 32 := Scf.iv c0_i32_12 c1_i32_13 k0_t1
  let v94 : BitVec 32 := Scalar.muli c2_i32_104 arg10
  let c1_i32_105 : BitVec 32 := 1#32
  let v95 : BitVec 32 := Scalar.addi v94 c1_i32_105
  let c2_i32_130 : BitVec 32 := 2#32
  let v111 : BitVec 32 := Scalar.subi v95 c2_i32_130
  let c16_i32_131 : BitVec 32 := 16#32
  let v112 : BitVec 32 := Scalar.muli v111 c16_i32_131
  let v113 : BitVec 32 := Scalar.addi v29 v112
  let c0_i32_137 : BitVec 32 := 0#32
  let c0_i32_138 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_139 : BitVec 32 := 0#32
  ![v113.toNat, 0, 0, v18.toNat, 0]
@[reducible] def k0_t5_loop : Scf.Loop 32 :=
  let c0_i32_109 : BitVec 32 := 0#32
  let c16_i32_110 : BitVec 32 := 16#32
  let v99 : BitVec 32 := Scalar.addi c0_i32_109 c16_i32_110
  let c1_i32_111 : BitVec 32 := 1#32
  ⟨c0_i32_109, v99, c1_i32_111⟩
def k0_off12 (k0_t1 : Fin k0_t1_loop.trips) (k0_t5 : Fin k0_t5_loop.trips) : Fin 2 → Nat :=
  let c2_i32_104 : BitVec 32 := 2#32
  let c0_i32_12 : BitVec 32 := 0#32
  let c1_i32_13 : BitVec 32 := 1#32
  let arg10 : BitVec 32 := Scf.iv c0_i32_12 c1_i32_13 k0_t1
  let v94 : BitVec 32 := Scalar.muli c2_i32_104 arg10
  let c1_i32_105 : BitVec 32 := 1#32
  let v95 : BitVec 32 := Scalar.addi v94 c1_i32_105
  let c16_i32_130 : BitVec 32 := 16#32
  let v111 : BitVec 32 := Scalar.muli v95 c16_i32_130
  let c0_i32_109 : BitVec 32 := 0#32
  let c1_i32_111 : BitVec 32 := 1#32
  let arg12 : BitVec 32 := Scf.iv c0_i32_109 c1_i32_111 k0_t5
  let v112 : BitVec 32 := Scalar.addi v111 arg12
  let v113 : Index := Scalar.indexCast v112
  let c0 : Index := 0#32
  ![v113.toNat, 0]
@[reducible] def k0_t6_loop : Scf.Loop 32 :=
  let c0_i32_143 : BitVec 32 := 0#32
  let c7_i32_144 : BitVec 32 := 7#32
  let v165 : BitVec 32 := Scalar.addi c0_i32_143 c7_i32_144
  let c1_i32_145 : BitVec 32 := 1#32
  ⟨c0_i32_143, v165, c1_i32_145⟩
@[reducible] def k0_t7_loop : Scf.Loop 32 :=
  let c0_i32_154 : BitVec 32 := 0#32
  let c7_i32_155 : BitVec 32 := 7#32
  let v207 : BitVec 32 := Scalar.addi c0_i32_154 c7_i32_155
  let c1_i32_156 : BitVec 32 := 1#32
  ⟨c0_i32_154, v207, c1_i32_156⟩
def k0_off13 (v173 : BitVec 32) (v216 : BitVec 32) : Fin 3 → Nat :=
  let v251 : Index := Scalar.indexCast v173
  let v252 : Index := Scalar.indexCast v216
  let c0_171 : Index := 0#32
  ![v251.toNat, v252.toNat, 0]

def k0_off14 (v173 : BitVec 32) (v224 : BitVec 32) : Fin 3 → Nat :=
  let v255 : Index := Scalar.indexCast v173
  let v256 : Index := Scalar.indexCast v224
  let c0_172 : Index := 0#32
  ![v255.toNat, v256.toNat, 0]

def k0_off15 (v180 : BitVec 32) (v216 : BitVec 32) : Fin 3 → Nat :=
  let v259 : Index := Scalar.indexCast v180
  let v260 : Index := Scalar.indexCast v216
  let c0_173 : Index := 0#32
  ![v259.toNat, v260.toNat, 0]

def k0_chk3 (v173 : BitVec 32) (v180 : BitVec 32) (v216 : BitVec 32) : Prop :=
  (∀ a, (k0_off13 v173 v216) a + S1x1x16.size a ≤ S64x64x16.size a) ∧
  (∀ a, (k0_off15 v180 v216) a + S1x1x16.size a ≤ S64x64x16.size a)
theorem k0_off13_inb : ∀ (v173 : BitVec 32) (v180 : BitVec 32) (v216 : BitVec 32) (k0_hw3 : k0_chk3 v173 v180 v216), ∀ a, (k0_off13 v173 v216) a + S1x1x16.size a ≤ S64x64x16.size a := fun v173 v180 v216 k0_hw3 => k0_hw3.1
theorem k0_off15_inb : ∀ (v173 : BitVec 32) (v180 : BitVec 32) (v216 : BitVec 32) (k0_hw3 : k0_chk3 v173 v180 v216), ∀ a, (k0_off15 v180 v216) a + S1x1x16.size a ≤ S64x64x16.size a := fun v173 v180 v216 k0_hw3 => k0_hw3.2

def k0_off16 (v180 : BitVec 32) (v224 : BitVec 32) : Fin 3 → Nat :=
  let v263 : Index := Scalar.indexCast v180
  let v264 : Index := Scalar.indexCast v224
  let c0_174 : Index := 0#32
  ![v263.toNat, v264.toNat, 0]

def k0_chk4 (v173 : BitVec 32) (v180 : BitVec 32) (v224 : BitVec 32) : Prop :=
  (∀ a, (k0_off14 v173 v224) a + S1x1x16.size a ≤ S64x64x16.size a) ∧
  (∀ a, (k0_off16 v180 v224) a + S1x1x16.size a ≤ S64x64x16.size a)
theorem k0_off14_inb : ∀ (v173 : BitVec 32) (v180 : BitVec 32) (v224 : BitVec 32) (k0_hw4 : k0_chk4 v173 v180 v224), ∀ a, (k0_off14 v173 v224) a + S1x1x16.size a ≤ S64x64x16.size a := fun v173 v180 v224 k0_hw4 => k0_hw4.1
theorem k0_off16_inb : ∀ (v173 : BitVec 32) (v180 : BitVec 32) (v224 : BitVec 32) (k0_hw4 : k0_chk4 v173 v180 v224), ∀ a, (k0_off16 v180 v224) a + S1x1x16.size a ≤ S64x64x16.size a := fun v173 v180 v224 k0_hw4 => k0_hw4.2

def k0_off17 (k0_t5 : Fin k0_t5_loop.trips) (k0_t6 : Fin k0_t6_loop.trips) (k0_t7 : Fin k0_t7_loop.trips) : Fin 5 → Nat :=
  let c1_i32_175 : BitVec 32 := 1#32
  let v279 : Index := Scalar.indexCast c1_i32_175
  let c0_i32_109 : BitVec 32 := 0#32
  let c1_i32_111 : BitVec 32 := 1#32
  let arg12 : BitVec 32 := Scf.iv c0_i32_109 c1_i32_111 k0_t5
  let v280 : Index := Scalar.indexCast arg12
  let c0_i32_143 : BitVec 32 := 0#32
  let c1_i32_145 : BitVec 32 := 1#32
  let arg14 : BitVec 32 := Scf.iv c0_i32_143 c1_i32_145 k0_t6
  let v281 : Index := Scalar.indexCast arg14
  let c0_i32_154 : BitVec 32 := 0#32
  let c1_i32_156 : BitVec 32 := 1#32
  let arg16 : BitVec 32 := Scf.iv c0_i32_154 c1_i32_156 k0_t7
  let v282 : Index := Scalar.indexCast arg16
  let c0_176 : Index := 0#32
  ![1, v280.toNat, v281.toNat, v282.toNat, 0]
def k0_off18 (i : grid0.Coords) (k0_t1 : Fin k0_t1_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1250_i32 : BitVec 32 := 1250#32
  let v29 : BitVec 32 := Scalar.muli v28 c1250_i32
  let c2_i32_104 : BitVec 32 := 2#32
  let c0_i32_12 : BitVec 32 := 0#32
  let c1_i32_13 : BitVec 32 := 1#32
  let arg10 : BitVec 32 := Scf.iv c0_i32_12 c1_i32_13 k0_t1
  let v94 : BitVec 32 := Scalar.muli c2_i32_104 arg10
  let c1_i32_105 : BitVec 32 := 1#32
  let v95 : BitVec 32 := Scalar.addi v94 c1_i32_105
  let c16_i32_113 : BitVec 32 := 16#32
  let v101 : BitVec 32 := Scalar.muli v95 c16_i32_113
  let v102 : BitVec 32 := Scalar.addi v29 v101
  let c0_i32_119 : BitVec 32 := 0#32
  let c0_i32_120 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_121 : BitVec 32 := 0#32
  ![v102.toNat, 0, 0, v18.toNat, 0]
def k0_off19 (i : grid0.Coords) (c1216_i32 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1250_i32 : BitVec 32 := 1250#32
  let v29 : BitVec 32 := Scalar.muli v28 c1250_i32
  let v40 : BitVec 32 := Scalar.addi v29 c1216_i32
  let c0_i32_20 : BitVec 32 := 0#32
  let c0_i32_21 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_22 : BitVec 32 := 0#32
  ![v40.toNat, 0, 0, v18.toNat, 0]
@[reducible] def k0_t8_loop : Scf.Loop 32 :=
  let c0_i32_31 : BitVec 32 := 0#32
  let c2_i32_32 : BitVec 32 := 2#32
  let v49 : BitVec 32 := Scalar.addi c0_i32_31 c2_i32_32
  let c1_i32_33 : BitVec 32 := 1#32
  ⟨c0_i32_31, v49, c1_i32_33⟩
def k0_off20 (k0_t8 : Fin k0_t8_loop.trips) : Fin 2 → Nat :=
  let c1248_i32_81 : BitVec 32 := 1248#32
  let c0_i32_31 : BitVec 32 := 0#32
  let c1_i32_33 : BitVec 32 := 1#32
  let arg10 : BitVec 32 := Scf.iv c0_i32_31 c1_i32_33 k0_t8
  let v78 : BitVec 32 := Scalar.addi c1248_i32_81 arg10
  let v79 : Index := Scalar.indexCast v78
  let c0 : Index := 0#32
  ![v79.toNat, 0]
@[reducible] def k0_t9_loop : Scf.Loop 32 :=
  let c0_i32_94 : BitVec 32 := 0#32
  let c7_i32_95 : BitVec 32 := 7#32
  let v131 : BitVec 32 := Scalar.addi c0_i32_94 c7_i32_95
  let c1_i32_96 : BitVec 32 := 1#32
  ⟨c0_i32_94, v131, c1_i32_96⟩
@[reducible] def k0_t10_loop : Scf.Loop 32 :=
  let c0_i32_105 : BitVec 32 := 0#32
  let c7_i32_106 : BitVec 32 := 7#32
  let v173 : BitVec 32 := Scalar.addi c0_i32_105 c7_i32_106
  let c1_i32_107 : BitVec 32 := 1#32
  ⟨c0_i32_105, v173, c1_i32_107⟩
def k0_off21 (v139 : BitVec 32) (v182 : BitVec 32) : Fin 3 → Nat :=
  let v217 : Index := Scalar.indexCast v139
  let v218 : Index := Scalar.indexCast v182
  let c0_122 : Index := 0#32
  ![v217.toNat, v218.toNat, 0]

def k0_off22 (v139 : BitVec 32) (v190 : BitVec 32) : Fin 3 → Nat :=
  let v221 : Index := Scalar.indexCast v139
  let v222 : Index := Scalar.indexCast v190
  let c0_123 : Index := 0#32
  ![v221.toNat, v222.toNat, 0]

def k0_off23 (v146 : BitVec 32) (v182 : BitVec 32) : Fin 3 → Nat :=
  let v225 : Index := Scalar.indexCast v146
  let v226 : Index := Scalar.indexCast v182
  let c0_124 : Index := 0#32
  ![v225.toNat, v226.toNat, 0]

def k0_chk5 (v139 : BitVec 32) (v146 : BitVec 32) (v182 : BitVec 32) : Prop :=
  (∀ a, (k0_off21 v139 v182) a + S1x1x16.size a ≤ S64x64x16.size a) ∧
  (∀ a, (k0_off23 v146 v182) a + S1x1x16.size a ≤ S64x64x16.size a)
theorem k0_off21_inb : ∀ (v139 : BitVec 32) (v146 : BitVec 32) (v182 : BitVec 32) (k0_hw5 : k0_chk5 v139 v146 v182), ∀ a, (k0_off21 v139 v182) a + S1x1x16.size a ≤ S64x64x16.size a := fun v139 v146 v182 k0_hw5 => k0_hw5.1
theorem k0_off23_inb : ∀ (v139 : BitVec 32) (v146 : BitVec 32) (v182 : BitVec 32) (k0_hw5 : k0_chk5 v139 v146 v182), ∀ a, (k0_off23 v146 v182) a + S1x1x16.size a ≤ S64x64x16.size a := fun v139 v146 v182 k0_hw5 => k0_hw5.2

def k0_off24 (v146 : BitVec 32) (v190 : BitVec 32) : Fin 3 → Nat :=
  let v229 : Index := Scalar.indexCast v146
  let v230 : Index := Scalar.indexCast v190
  let c0_125 : Index := 0#32
  ![v229.toNat, v230.toNat, 0]

def k0_chk6 (v139 : BitVec 32) (v146 : BitVec 32) (v190 : BitVec 32) : Prop :=
  (∀ a, (k0_off22 v139 v190) a + S1x1x16.size a ≤ S64x64x16.size a) ∧
  (∀ a, (k0_off24 v146 v190) a + S1x1x16.size a ≤ S64x64x16.size a)
theorem k0_off22_inb : ∀ (v139 : BitVec 32) (v146 : BitVec 32) (v190 : BitVec 32) (k0_hw6 : k0_chk6 v139 v146 v190), ∀ a, (k0_off22 v139 v190) a + S1x1x16.size a ≤ S64x64x16.size a := fun v139 v146 v190 k0_hw6 => k0_hw6.1
theorem k0_off24_inb : ∀ (v139 : BitVec 32) (v146 : BitVec 32) (v190 : BitVec 32) (k0_hw6 : k0_chk6 v139 v146 v190), ∀ a, (k0_off24 v146 v190) a + S1x1x16.size a ≤ S64x64x16.size a := fun v139 v146 v190 k0_hw6 => k0_hw6.2

def k0_off25 (k0_t8 : Fin k0_t8_loop.trips) (k0_t9 : Fin k0_t9_loop.trips) (k0_t10 : Fin k0_t10_loop.trips) : Fin 5 → Nat :=
  let c0_i32_126 : BitVec 32 := 0#32
  let v245 : Index := Scalar.indexCast c0_i32_126
  let c0_i32_31 : BitVec 32 := 0#32
  let c1_i32_33 : BitVec 32 := 1#32
  let arg10 : BitVec 32 := Scf.iv c0_i32_31 c1_i32_33 k0_t8
  let v246 : Index := Scalar.indexCast arg10
  let c0_i32_94 : BitVec 32 := 0#32
  let c1_i32_96 : BitVec 32 := 1#32
  let arg12 : BitVec 32 := Scf.iv c0_i32_94 c1_i32_96 k0_t9
  let v247 : Index := Scalar.indexCast arg12
  let c0_i32_105 : BitVec 32 := 0#32
  let c1_i32_107 : BitVec 32 := 1#32
  let arg14 : BitVec 32 := Scf.iv c0_i32_105 c1_i32_107 k0_t10
  let v248 : Index := Scalar.indexCast arg14
  let c0_127 : Index := 0#32
  ![0, v246.toNat, v247.toNat, v248.toNat, 0]
def k0_off26 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1250_i32 : BitVec 32 := 1250#32
  let v29 : BitVec 32 := Scalar.muli v28 c1250_i32
  let c1248_i32 : BitVec 32 := 1248#32
  let v51 : BitVec 32 := Scalar.addi v29 c1248_i32
  let c0_i32_40 : BitVec 32 := 0#32
  let c0_i32_41 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_42 : BitVec 32 := 0#32
  ![v51.toNat, 0, 0, v18.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x64x64x64 : Shape := ⟨4, ![1, 64, 64, 64]⟩
abbrev S1x10000x4 : Shape := ⟨3, ![1, 10000, 4]⟩
abbrev S64x64x64 : Shape := ⟨3, ![64, 64, 64]⟩
abbrev S10000x4 : Shape := ⟨2, ![10000, 4]⟩
abbrev S10000x1 : Shape := ⟨2, ![10000, 1]⟩
abbrev S10000 : Shape := ⟨1, ![10000]⟩
abbrev S7 : Shape := ⟨1, ![7]⟩
abbrev S_ : Shape := ⟨0, ![]⟩
abbrev S1x7 : Shape := ⟨2, ![1, 7]⟩
abbrev S10000x7 : Shape := ⟨2, ![10000, 7]⟩
abbrev S10000x7x1 : Shape := ⟨3, ![10000, 7, 1]⟩
abbrev S10000x7x64x64 : Shape := ⟨4, ![10000, 7, 64, 64]⟩
abbrev S10000x7x7x64 : Shape := ⟨4, ![10000, 7, 7, 64]⟩
abbrev S10000x1x7x1 : Shape := ⟨4, ![10000, 1, 7, 1]⟩
abbrev S10000x7x1x1 : Shape := ⟨4, ![10000, 7, 1, 1]⟩
abbrev S7x7x64 : Shape := ⟨3, ![7, 7, 64]⟩
abbrev S1x10000x7x7x64 : Shape := ⟨5, ![1, 10000, 7, 7, 64]⟩

abbrev nBuf : Space → Nat
  | .hbm => 211
  | .vmem => 0
  | .smem => 0
  | _ => 0

abbrev hbmTy0_0 (i : Nat) : BufTy := match i % 128 with
  | 0 => ⟨S1x64x64x64, .f32⟩
  | 1 => ⟨S1x10000x4, .i32⟩
  | 2 => ⟨S64x64x64, .f32⟩
  | 3 => ⟨S10000x4, .i32⟩
  | 4 => ⟨S10000x1, .i32⟩
  | 5 => ⟨S10000, .i32⟩
  | 6 => ⟨S10000x1, .i32⟩
  | 7 => ⟨S10000, .i32⟩
  | 8 => ⟨S10000x1, .i32⟩
  | 9 => ⟨S10000, .i32⟩
  | 10 => ⟨S10000x1, .i32⟩
  | 11 => ⟨S10000, .i32⟩
  | 12 => ⟨S10000, .i32⟩
  | 13 => ⟨S10000, .i32⟩
  | 14 => ⟨S10000, .f32⟩
  | 15 => ⟨S10000, .f32⟩
  | 16 => ⟨S7, .f32⟩
  | 17 => ⟨S_, .f32⟩
  | 18 => ⟨S7, .f32⟩
  | 19 => ⟨S7, .f32⟩
  | 20 => ⟨S_, .f32⟩
  | 21 => ⟨S10000, .f32⟩
  | 22 => ⟨S10000, .f32⟩
  | 23 => ⟨S1x7, .f32⟩
  | 24 => ⟨S10000x1, .f32⟩
  | 25 => ⟨S10000x7, .f32⟩
  | 26 => ⟨S10000x7, .f32⟩
  | 27 => ⟨S10000x7, .f32⟩
  | 28 => ⟨S_, .f32⟩
  | 29 => ⟨S10000x7, .f32⟩
  | 30 => ⟨S10000x7, .f32⟩
  | 31 => ⟨S_, .f32⟩
  | 32 => ⟨S10000, .f32⟩
  | 33 => ⟨S10000, .f32⟩
  | 34 => ⟨S_, .f32⟩
  | 35 => ⟨S10000, .f32⟩
  | 36 => ⟨S10000, .f32⟩
  | 37 => ⟨S_, .f32⟩
  | 38 => ⟨S_, .f32⟩
  | 39 => ⟨S10000x7, .f32⟩
  | 40 => ⟨S10000x7, .f32⟩
  | 41 => ⟨S10000x1, .f32⟩
  | 42 => ⟨S10000x7, .f32⟩
  | 43 => ⟨S10000x7, .f32⟩
  | 44 => ⟨S7, .f32⟩
  | 45 => ⟨S_, .f32⟩
  | 46 => ⟨S7, .f32⟩
  | 47 => ⟨S7, .f32⟩
  | 48 => ⟨S_, .f32⟩
  | 49 => ⟨S10000, .f32⟩
  | 50 => ⟨S10000, .f32⟩
  | 51 => ⟨S1x7, .f32⟩
  | 52 => ⟨S10000x1, .f32⟩
  | 53 => ⟨S10000x7, .f32⟩
  | 54 => ⟨S10000x7, .f32⟩
  | 55 => ⟨S10000x7, .f32⟩
  | 56 => ⟨S_, .f32⟩
  | 57 => ⟨S10000x7, .f32⟩
  | 58 => ⟨S10000x7, .f32⟩
  | 59 => ⟨S_, .f32⟩
  | 60 => ⟨S10000, .f32⟩
  | 61 => ⟨S10000, .f32⟩
  | 62 => ⟨S_, .f32⟩
  | 63 => ⟨S10000, .f32⟩
  | 64 => ⟨S10000, .f32⟩
  | 65 => ⟨S_, .f32⟩
  | 66 => ⟨S_, .f32⟩
  | 67 => ⟨S10000x7, .f32⟩
  | 68 => ⟨S10000x7, .f32⟩
  | 69 => ⟨S10000x1, .f32⟩
  | 70 => ⟨S10000x7, .f32⟩
  | 71 => ⟨S10000x7, .f32⟩
  | 72 => ⟨S10000x7, .f32⟩
  | 73 => ⟨S10000x7, .i32⟩
  | 74 => ⟨S10000x7, .f32⟩
  | 75 => ⟨S10000x7, .i32⟩
  | 76 => ⟨S_, .i32⟩
  | 77 => ⟨S10000x7, .i32⟩
  | 78 => ⟨S10000x7, .i32⟩
  | 79 => ⟨S_, .i32⟩
  | 80 => ⟨S10000, .i32⟩
  | 81 => ⟨S10000, .i32⟩
  | 82 => ⟨S_, .i32⟩
  | 83 => ⟨S10000, .i32⟩
  | 84 => ⟨S10000, .i32⟩
  | 85 => ⟨S10000x1, .i32⟩
  | 86 => ⟨S10000x7, .i32⟩
  | 87 => ⟨S10000x7, .i32⟩
  | 88 => ⟨S_, .i32⟩
  | 89 => ⟨S10000x7, .i32⟩
  | 90 => ⟨S10000x7, .i32⟩
  | 91 => ⟨S_, .i32⟩
  | 92 => ⟨S10000, .i32⟩
  | 93 => ⟨S10000, .i32⟩
  | 94 => ⟨S_, .i32⟩
  | 95 => ⟨S10000, .i32⟩
  | 96 => ⟨S10000, .i32⟩
  | 97 => ⟨S10000x1, .i32⟩
  | 98 => ⟨S10000x7, .i32⟩
  | 99 => ⟨S10000x7, .i32⟩
  | 100 => ⟨S10000x7, .f32⟩
  | 101 => ⟨S10000x7, .f32⟩
  | 102 => ⟨S10000x7, .f32⟩
  | 103 => ⟨S10000x7, .f32⟩
  | 104 => ⟨S10000x1, .i32⟩
  | 105 => ⟨S10000x7, .i32⟩
  | 106 => ⟨S10000x7, .i32⟩
  | 107 => ⟨S_, .i32⟩
  | 108 => ⟨S_, .i32⟩
  | 109 => ⟨S_, .i32⟩
  | 110 => ⟨S10000x7, .i32⟩
  | 111 => ⟨S10000x7, .i32⟩
  | 112 => ⟨S_, .i32⟩
  | 113 => ⟨S10000x7, .i32⟩
  | 114 => ⟨S10000x7, .i32⟩
  | 115 => ⟨S10000x1, .i32⟩
  | 116 => ⟨S10000x7, .i32⟩
  | 117 => ⟨S10000x7, .i32⟩
  | 118 => ⟨S_, .i32⟩
  | 119 => ⟨S_, .i32⟩
  | 120 => ⟨S_, .i32⟩
  | 121 => ⟨S10000x7, .i32⟩
  | 122 => ⟨S10000x7, .i32⟩
  | 123 => ⟨S_, .i32⟩
  | 124 => ⟨S10000x7, .i32⟩
  | 125 => ⟨S10000x7, .i32⟩
  | 126 => ⟨S10000x1, .i32⟩
  | 127 => ⟨S10000x7, .i32⟩
  | _ => ⟨S1x64x64x64, .f32⟩

abbrev hbmTy0_1 (i : Nat) : BufTy := match i % 128 with
  | 0 => ⟨S10000x7, .i32⟩
  | 1 => ⟨S_, .i32⟩
  | 2 => ⟨S_, .i32⟩
  | 3 => ⟨S_, .i32⟩
  | 4 => ⟨S10000x7, .i32⟩
  | 5 => ⟨S10000x7, .i32⟩
  | 6 => ⟨S_, .i32⟩
  | 7 => ⟨S10000x7, .i32⟩
  | 8 => ⟨S10000x7, .i32⟩
  | 9 => ⟨S10000x1, .i32⟩
  | 10 => ⟨S10000x7, .i32⟩
  | 11 => ⟨S10000x7, .i32⟩
  | 12 => ⟨S_, .i32⟩
  | 13 => ⟨S_, .i32⟩
  | 14 => ⟨S_, .i32⟩
  | 15 => ⟨S10000x7, .i32⟩
  | 16 => ⟨S10000x7, .i32⟩
  | 17 => ⟨S_, .i32⟩
  | 18 => ⟨S10000x7, .i32⟩
  | 19 => ⟨S10000x7, .i32⟩
  | 20 => ⟨S10000x7x1, .i32⟩
  | 21 => ⟨S10000x7x64x64, .f32⟩
  | 22 => ⟨S10000x7x1, .i32⟩
  | 23 => ⟨S10000x7x64x64, .f32⟩
  | 24 => ⟨S10000x7x1, .i32⟩
  | 25 => ⟨S10000x7x7x64, .f32⟩
  | 26 => ⟨S10000x7x1, .i32⟩
  | 27 => ⟨S10000x7x7x64, .f32⟩
  | 28 => ⟨S10000x7x1, .i32⟩
  | 29 => ⟨S10000x7x7x64, .f32⟩
  | 30 => ⟨S10000x7x1, .i32⟩
  | 31 => ⟨S10000x7x7x64, .f32⟩
  | 32 => ⟨S_, .f32⟩
  | 33 => ⟨S10000x7, .f32⟩
  | 34 => ⟨S10000x7, .f32⟩
  | 35 => ⟨S10000x1x7x1, .f32⟩
  | 36 => ⟨S10000x7x7x64, .f32⟩
  | 37 => ⟨S10000x7x7x64, .f32⟩
  | 38 => ⟨S10000x1x7x1, .f32⟩
  | 39 => ⟨S10000x7x7x64, .f32⟩
  | 40 => ⟨S10000x7x7x64, .f32⟩
  | 41 => ⟨S10000x7x7x64, .f32⟩
  | 42 => ⟨S_, .f32⟩
  | 43 => ⟨S10000x7, .f32⟩
  | 44 => ⟨S10000x7, .f32⟩
  | 45 => ⟨S10000x1x7x1, .f32⟩
  | 46 => ⟨S10000x7x7x64, .f32⟩
  | 47 => ⟨S10000x7x7x64, .f32⟩
  | 48 => ⟨S10000x1x7x1, .f32⟩
  | 49 => ⟨S10000x7x7x64, .f32⟩
  | 50 => ⟨S10000x7x7x64, .f32⟩
  | 51 => ⟨S10000x7x7x64, .f32⟩
  | 52 => ⟨S_, .f32⟩
  | 53 => ⟨S10000x7, .f32⟩
  | 54 => ⟨S10000x7, .f32⟩
  | 55 => ⟨S10000x7x1x1, .f32⟩
  | 56 => ⟨S10000x7x7x64, .f32⟩
  | 57 => ⟨S10000x7x7x64, .f32⟩
  | 58 => ⟨S10000x7x1x1, .f32⟩
  | 59 => ⟨S10000x7x7x64, .f32⟩
  | 60 => ⟨S10000x7x7x64, .f32⟩
  | 61 => ⟨S10000x7x7x64, .f32⟩
  | 62 => ⟨S_, .i32⟩
  | 63 => ⟨S10000, .i32⟩
  | 64 => ⟨S10000, .i1⟩
  | 65 => ⟨S_, .i32⟩
  | 66 => ⟨S10000, .i32⟩
  | 67 => ⟨S10000, .i1⟩
  | 68 => ⟨S10000, .i1⟩
  | 69 => ⟨S_, .i32⟩
  | 70 => ⟨S10000, .i32⟩
  | 71 => ⟨S10000, .i1⟩
  | 72 => ⟨S10000, .i1⟩
  | 73 => ⟨S_, .i32⟩
  | 74 => ⟨S10000, .i32⟩
  | 75 => ⟨S10000, .i1⟩
  | 76 => ⟨S10000, .i1⟩
  | 77 => ⟨S_, .f32⟩
  | 78 => ⟨S7x7x64, .f32⟩
  | 79 => ⟨S10000x7x7x64, .f32⟩
  | 80 => ⟨S10000x7x7x64, .i1⟩
  | 81 => ⟨S10000x7x7x64, .f32⟩
  | 82 => ⟨S1x10000x7x7x64, .f32⟩
  | _ => ⟨S1x64x64x64, .f32⟩

abbrev hbmTy (i : Nat) : BufTy := match i / 128 with
  | 0 => hbmTy0_0 i
  | 1 => hbmTy0_1 i
  | _ => ⟨S1x64x64x64, .f32⟩

abbrev bufTy : (tb : Table) → Fin (tcTables nBuf tb) → BufTy
  | .hbm, ⟨i, _⟩ => hbmTy i
  | _, _ => ⟨S1x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_1 : Ref sig .tc := ⟨.hbm, 28, rfl⟩
abbrev main_v24 : Ref sig .tc := ⟨.hbm, 29, rfl⟩
abbrev main_v25 : Ref sig .tc := ⟨.hbm, 30, rfl⟩
abbrev main_cst_2 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_13 : Ref sig .tc := ⟨.hbm, 88, rfl⟩
abbrev main_v61 : Ref sig .tc := ⟨.hbm, 89, rfl⟩
abbrev main_v62 : Ref sig .tc := ⟨.hbm, 90, rfl⟩
abbrev main_c_14 : Ref sig .tc := ⟨.hbm, 91, rfl⟩
abbrev main_v63 : Ref sig .tc := ⟨.hbm, 92, rfl⟩
abbrev main_v64 : Ref sig .tc := ⟨.hbm, 93, rfl⟩
abbrev main_c_15 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_16 : Ref sig .tc := ⟨.hbm, 107, rfl⟩
abbrev main_c_17 : Ref sig .tc := ⟨.hbm, 108, rfl⟩
abbrev main_call2_v0 : Ref sig .tc := ⟨.hbm, 109, rfl⟩
abbrev main_call2_v1 : Ref sig .tc := ⟨.hbm, 110, rfl⟩
abbrev main_call2_v2 : Ref sig .tc := ⟨.hbm, 111, rfl⟩
abbrev main_call2_v3 : Ref sig .tc := ⟨.hbm, 112, rfl⟩
abbrev main_call2_v4 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_c_18 : Ref sig .tc := ⟨.hbm, 118, rfl⟩
abbrev main_c_19 : Ref sig .tc := ⟨.hbm, 119, rfl⟩
abbrev main_call3_v0 : Ref sig .tc := ⟨.hbm, 120, rfl⟩
abbrev main_call3_v1 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_c_20 : Ref sig .tc := ⟨.hbm, 129, rfl⟩
abbrev main_c_21 : Ref sig .tc := ⟨.hbm, 130, rfl⟩
abbrev main_call4_v0 : Ref sig .tc := ⟨.hbm, 131, rfl⟩
abbrev main_call4_v1 : Ref sig .tc := ⟨.hbm, 132, rfl⟩
abbrev main_call4_v2 : Ref sig .tc := ⟨.hbm, 133, rfl⟩
abbrev main_call4_v3 : Ref sig .tc := ⟨.hbm, 134, rfl⟩
abbrev main_call4_v4 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_c_22 : Ref sig .tc := ⟨.hbm, 140, rfl⟩
abbrev main_c_23 : Ref sig .tc := ⟨.hbm, 141, rfl⟩
abbrev main_call5_v0 : Ref sig .tc := ⟨.hbm, 142, rfl⟩
abbrev main_call5_v1 : Ref sig .tc := ⟨.hbm, 143, rfl⟩
abbrev main_call5_v2 : Ref sig .tc := ⟨.hbm, 144, rfl⟩
abbrev main_call5_v3 : Ref sig .tc := ⟨.hbm, 145, rfl⟩
abbrev main_call5_v4 : Ref sig .tc := ⟨.hbm, 146, rfl⟩
abbrev main_v89 : Ref sig .tc := ⟨.hbm, 147, rfl⟩
abbrev main_call6_v0 : Ref sig .tc := ⟨.hbm, 148, rfl⟩
abbrev main_v90 : Ref sig .tc := ⟨.hbm, 149, rfl⟩
abbrev main_call7_v0 : Ref sig .tc := ⟨.hbm, 150, rfl⟩
abbrev main_v91 : Ref sig .tc := ⟨.hbm, 151, rfl⟩
abbrev main_call8_v0 : Ref sig .tc := ⟨.hbm, 152, rfl⟩
abbrev main_v92 : Ref sig .tc := ⟨.hbm, 153, rfl⟩
abbrev main_call9_v0 : Ref sig .tc := ⟨.hbm, 154, rfl⟩
abbrev main_v93 : Ref sig .tc := ⟨.hbm, 155, rfl⟩
abbrev main_call10_v0 : Ref sig .tc := ⟨.hbm, 156, rfl⟩
abbrev main_v94 : Ref sig .tc := ⟨.hbm, 157, rfl⟩
abbrev main_call11_v0 : Ref sig .tc := ⟨.hbm, 158, rfl⟩
abbrev main_v95 : Ref sig .tc := ⟨.hbm, 159, rfl⟩
abbrev main_cst_24 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_cst_25 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_cst_26 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_c_27 : Ref sig .tc := ⟨.hbm, 190, rfl⟩
abbrev main_v123 : Ref sig .tc := ⟨.hbm, 191, rfl⟩
abbrev main_v124 : Ref sig .tc := ⟨.hbm, 192, rfl⟩
abbrev main_c_28 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_c_29 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_c_30 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_cst_31 : Ref sig .tc := ⟨.hbm, 205, rfl⟩
abbrev main_v134 : Ref sig .tc := ⟨.hbm, 206, rfl⟩
abbrev main_call12_v0 : Ref sig .tc := ⟨.hbm, 207, rfl⟩
abbrev main_call12_v1 : Ref sig .tc := ⟨.hbm, 208, rfl⟩
abbrev main_v135 : Ref sig .tc := ⟨.hbm, 209, rfl⟩
abbrev main_v136 : Ref sig .tc := ⟨.hbm, 210, rfl⟩

abbrev nD : Nat := 1
abbrev τ : Topo := Topo.v7x

variable {F : FTy → Type} [FloatOps F]
-- ==== Proof.Ideal.Base.lean ====
/-
  The kernel's program as the launch theorem sees it: the one call, its processors, the resource algebra that the
  proofs run in, and the names of the buffers that the tiles work on.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Writes
public import proofs.«01_k».proof.Proof.Gen.KernelIdeal

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev EH : Emb UH (MT nD τ sig (HIx 1) (Elt F) ℕ UU ℕ) := embL

abbrev cV (L : grid0.Coords) : Fin τ.nSC := (L 0).castLE hcore0
abbrev jV (L : grid0.Coords) : Fin τ.nSub := (L 1).castLE hsub0

/-- The three scratch buffers of a tile: the channel group's feature map, the group's rois, the two output slots. -/
abbrev fmB : Memref sig .scVector .vmem S64x64x16 .f32 := Memref.whole cc0_scratch0
abbrev roiB : Memref sig .scVector .vmem S1250x16 .i32 := Memref.whole cc0_scratch1
abbrev outB : Memref sig .scVector .vmem S2x16x7x7x16 .f32 := Memref.whole cc0_scratch2

end Cert.Proof.KernelIdeal

end
-- ==== Proof.Ideal.Body.lean ====
/-
  A tile's body, regrouped. The printed body is cut into pieces by position; here it is written as the parts a reader
  would name — one roi's pooled cells, a batch of rois, a pair of batches — and the two are shown equal.
-/
module

public import proofs.«01_k».proof.Proof.Ideal.Base

@[expose] public section

noncomputable section

namespace Cert.Proof.KernelIdeal

open Cert.KernelIdeal Cert.KernelIdeal.Gen
open Idealize.ShloMosaic
open Idealize.SL.Sem

variable {F : FTy → Type} [FloatOps F]

/-! ## The vectors of one roi: lanes 0–6 for the rows of cells, lanes 8–14 for the columns -/

/-- The lane numbers. -/
def lanes : IVec S16 32 := iota .scVector S16 32 [0] iota_S16_d0_w32_scVector
/-- Which lanes are for rows. -/
def isRow : IVec S16 1 := cmpi .slt lanes (broadcast S16 8#32)
/-- A cell's position in its row or column, plus a half. -/
def posF : FVec F S16 .f32 :=
  addf (sitofp .f32 (andi lanes (broadcast S16 7#32))) (broadcast S16 (Scalar.ofBits .f32 0x3F000000#32))

/-- Word `n` of a roi. -/
def word (h : IVec S16 32) (n : Fin 16) (hn : S16.Slices ![n.val] S1) : BitVec 32 :=
  extractAt ![0] (extractStridedSlice S1 ![n.val] h hn) inpos_S1_p0
/-- Where the roi starts. -/
def baseV (h : IVec S16 32) : IVec S16 32 :=
  select isRow (broadcast S16 (word h 1 slices_S16_o1_S1)) (broadcast S16 (word h 0 slices_S16_o0_S1))
/-- How far it reaches. -/
def extV (h : IVec S16 32) : IVec S16 32 :=
  select isRow (broadcast S16 (Scalar.subi (word h 3 slices_S16_o3_S1) (word h 1 slices_S16_o1_S1)))
    (broadcast S16 (Scalar.subi (word h 2 slices_S16_o2_S1) (word h 0 slices_S16_o0_S1)))
/-- The coordinate sampled, measured from the roi's start. -/
def coordV (h : IVec S16 32) : FVec F S16 .f32 :=
  minimumf
    (maximumf (subf (sitofp .f32 (extV h)) (broadcast S16 (Scalar.ofBits .f32 0x3F800000#32))) (broadcast S16 (Scalar.ofBits .f32 0x00000000#32)))
    (maximumf (broadcast S16 (Scalar.ofBits .f32 0x00000000#32))
      (subf (mulf posF (divf (sitofp .f32 (extV h)) (broadcast S16 (Scalar.ofBits .f32 0x40E00000#32))))
        (broadcast S16 (Scalar.ofBits .f32 0x3F000000#32))))
/-- Its whole part. -/
def lowV (h : IVec S16 32) : IVec S16 32 := fptosi 32 (coordV (F := F) h)
/-- Its fraction. -/
def wtV (h : IVec S16 32) : FVec F S16 .f32 := subf (coordV h) (sitofp .f32 (lowV (F := F) h))
/-- The next whole coordinate within the roi. -/
def nextV (h : IVec S16 32) : IVec S16 32 :=
  minsi (addi (lowV (F := F) h) (broadcast S16 1#32)) (maxsi (subi (extV h) (broadcast S16 1#32)) (broadcast S16 0#32))
/-- A coordinate held within the feature map. -/
def clipV (x : IVec S16 32) : IVec S16 32 := minsi (broadcast S16 63#32) (maxsi (broadcast S16 0#32) x)
/-- The lower and the upper of the two coordinates between which a cell's value lies. -/
def aV (h : IVec S16 32) : IVec S16 32 := clipV (addi (baseV h) (lowV (F := F) h))
@[inherit_doc aV] def bV (h : IVec S16 32) : IVec S16 32 := clipV (addi (baseV h) (nextV (F := F) h))

/-- Lane `n` of a vector of words, as a masked sum. -/
def pickI (x : IVec S16 32) (n : BitVec 32) : BitVec 32 :=
  extractAt ![15] (scan .sum (select (cmpi .eq lanes (broadcast S16 n)) x (broadcast S16 0#32))) inpos_S16_p15
/-- Lane `n` of a vector. -/
def ext (w : FVec F S16 .f32) (n : Fin 16) (hn : S16.Slices ![n.val] S1) : F .f32 :=
  extractAt ![0] (extractStridedSlice S1 ![n.val] w hn) inpos_S1_p0
/-- One of seven values, by a run-time index. -/
def pick7 (iv : BitVec 32) (x0 x1 x2 x3 x4 x5 x6 : F .f32) : F .f32 :=
  Scalar.select (Scalar.cmpi .eq iv 6#32) x6 (Scalar.select (Scalar.cmpi .eq iv 5#32) x5 (Scalar.select (Scalar.cmpi .eq iv 4#32) x4
    (Scalar.select (Scalar.cmpi .eq iv 3#32) x3 (Scalar.select (Scalar.cmpi .eq iv 2#32) x2 (Scalar.select (Scalar.cmpi .eq iv 1#32) x1 x0)))))
/-- The weight of a row of cells. -/
def pickY (w : FVec F S16 .f32) (iv : BitVec 32) : F .f32 :=
  pick7 iv (ext w 0 slices_S16_o0_S1) (ext w 1 slices_S16_o1_S1) (ext w 2 slices_S16_o2_S1) (ext w 3 slices_S16_o3_S1)
    (ext w 4 slices_S16_o4_S1) (ext w 5 slices_S16_o5_S1) (ext w 6 slices_S16_o6_S1)
/-- The weight of a column of cells. -/
def pickX (w : FVec F S16 .f32) (iv : BitVec 32) : F .f32 :=
  pick7 iv (ext w 8 slices_S16_o8_S1) (ext w 9 slices_S16_o9_S1) (ext w 10 slices_S16_o10_S1) (ext w 11 slices_S16_o11_S1)
    (ext w 12 slices_S16_o12_S1) (ext w 13 slices_S16_o13_S1) (ext w 14 slices_S16_o14_S1)

/-- The value between four, by the two weights. -/
def lerpV (wy wx : F .f32) (aa ab ba bb : FVec F S16 .f32) : FVec F S16 .f32 :=
  addf (addf aa (mulf (broadcast S16 wx) (subf ab aa)))
    (mulf (broadcast S16 wy) (subf (addf ba (mulf (broadcast S16 wx) (subf bb ba))) (addf aa (mulf (broadcast S16 wx) (subf ab aa)))))

/-! ## The program -/

/-- A tile's programs. -/
abbrev TProg (F : FTy → Type) (i : grid0.Coords) (α : Type) : Type _ :=
  Prog (TpuEff nD τ sig (Elt F) Λ₀ (.scVector ((i 0).castLE hcore0) ((i 1).castLE hsub0))) α

/-- One vector of the feature map. -/
abbrev fmAt (o : Fin 3 → ℕ) (ho : ∀ a, o a + S1x1x16.size a ≤ S64x64x16.size a) : Rect S64x64x16 :=
  Rect.unit (s := S64x64x16) o S1x1x16.size ho
/-- One vector of the output slots. -/
abbrev outAt (o : Fin 5 → ℕ) (ho : ∀ a, o a + S1x1x1x1x16.size a ≤ S2x16x7x7x16.size a) : Rect S2x16x7x7x16 :=
  Rect.unit (s := S2x16x7x7x16) o S1x1x1x1x16.size ho

/-- One cell: four vectors read, their bilinear value written. -/
def cellProg (i : grid0.Coords) (ya yb xa xb : BitVec 32) (wy wx : F .f32)
    (h1 : k0_chk1 ya yb xa) (h2 : k0_chk2 ya yb xb) (o : Fin 5 → ℕ) (ho : ∀ a, o a + S1x1x1x1x16.size a ≤ S2x16x7x7x16.size a) :
    TProg F i (BitVec 32) := do
  let aa ← Prog.lift (.load fmB (fmAt (k0_off5 ya xa) (k0_off5_inb ya yb xa h1)).toLoadRect (View.loadsAt_vmem h_S1x1x16))
  let ab ← Prog.lift (.load fmB (fmAt (k0_off6 ya xb) (k0_off6_inb ya yb xb h2)).toLoadRect (View.loadsAt_vmem h_S1x1x16))
  let ba ← Prog.lift (.load fmB (fmAt (k0_off7 yb xa) (k0_off7_inb ya yb xa h1)).toLoadRect (View.loadsAt_vmem h_S1x1x16))
  let bb ← Prog.lift (.load fmB (fmAt (k0_off8 yb xb) (k0_off8_inb ya yb xb h2)).toLoadRect (View.loadsAt_vmem h_S1x1x16))
  let _ ← Prog.lift (.load outB (outAt o ho).toLoadRect (View.loadsAt_vmem h_S1x1x1x1x16))
  Prog.lift (.store outB (outAt o ho)
    (shapeCast S1x1x1x1x16
      (lerpV wy wx (shapeCast S16 aa shapeCasts_S1x1x16_S16) (shapeCast S16 ab shapeCasts_S1x1x16_S16)
        (shapeCast S16 ba shapeCasts_S1x1x16_S16) (shapeCast S16 bb shapeCasts_S1x1x16_S16)) shapeCasts_S16_S1x1x1x1x16)
    Finset.univ (View.stores_vmem_bits_univ h_S1x1x1x1x16 rfl) (.inl rfl))
  pure 0#32

/-- One cell, its coordinates seen to lie within the feature map. -/
def cellChk (i : grid0.Coords) (ya yb xa xb : BitVec 32) (wy wx : F .f32) (o : Fin 5 → ℕ)
    (ho : ∀ a, o a + S1x1x1x1x16.size a ≤ S2x16x7x7x16.size a) : TProg F i (BitVec 32) := do
  let h1 ← Prog.lift (.assume (k0_chk1 ya yb xa) (k0_chk1.dec ya yb xa))
  let h2 ← Prog.lift (.assume (k0_chk2 ya yb xb) (k0_chk2.dec ya yb xb))
  cellProg i ya yb xa xb wy wx h1.down h2.down o ho

/-- Row `p`, column `q` of a roi's cells. -/
def cellAt (i : grid0.Coords) (h : IVec S16 32) (ivp ivq : BitVec 32) (o : Fin 5 → ℕ)
    (ho : ∀ a, o a + S1x1x1x1x16.size a ≤ S2x16x7x7x16.size a) : TProg F i (BitVec 32) :=
  cellChk i (pickI (aV (F := F) h) ivp) (pickI (bV (F := F) h) ivp) (pickI (aV (F := F) h) (Scalar.addi 8#32 ivq))
    (pickI (bV (F := F) h) (Scalar.addi 8#32 ivq)) (pickY (wtV h) ivp) (pickX (wtV h) ivq) o ho

/-- One roi: its words read, its seven rows of seven cells written at `o`. -/
def fillProg (i : grid0.Coords) (ro : Fin 2 → ℕ) (hro : ∀ a, ro a + S1x16.size a ≤ S1250x16.size a)
    (o : Fin k0_t3_loop.trips → Fin k0_t4_loop.trips → Fin 5 → ℕ)
    (ho : ∀ p q, ∀ a, o p q a + S1x1x1x1x16.size a ≤ S2x16x7x7x16.size a) : TProg F i (BitVec 32) := do
  let r ← Prog.lift (.load roiB (Rect.unit (s := S1250x16) ro S1x16.size hro).toLoadRect (View.loadsAt_vmem h_S1x16))
  let _ ← Scf.Loop.for k0_t3_loop k0_t3_ok 0#32 fun p _ => do
    let _ ← Scf.Loop.for k0_t4_loop k0_t4_ok 0#32 fun q _ =>
      cellAt i (shapeCast S16 r shapeCasts_S1x16_S16) (Scf.iv 0#32 1#32 p) (Scf.iv 0#32 1#32 q) (o p q) (ho p q)
    pure 0#32
  pure 0#32

/-- The copy of an output slot to the results, and the wait for it. -/
abbrev slotB (o : Fin 5 → ℕ) (ho : ∀ a, o a + S1x16x7x7x16.size a ≤ S2x16x7x7x16.size a) : Memref sig .scVector .vmem S16x7x7x16 .f32 :=
  (outB.slice (Rect.unit (s := S2x16x7x7x16) o S1x16x7x7x16.size ho) (fun _ => rfl)).squeeze S16x7x7x16 squeezes_S1x16x7x7x16_S16x7x7x16
/-- The results, as the tiles address them. -/
abbrev resB : Memref sig .scVector .hbm S10000x7x7x4x16 .f32 := Memref.whole main_v6_scv
/-- One batch's place in the results. -/
abbrev batchB (o : Fin 5 → ℕ) (ho : ∀ a, o a + S16x7x7x1x16.size a ≤ S10000x7x7x4x16.size a) : Memref sig .scVector .hbm S16x7x7x16 .f32 :=
  (resB.slice (Rect.unit (s := S10000x7x7x4x16) o S16x7x7x1x16.size ho) (fun _ => rfl)).squeeze S16x7x7x16 squeezes_S16x7x7x1x16_S16x7x7x16
abbrev slot0 : Memref sig .scVector .vmem S16x7x7x16 .f32 := slotB ![0, 0, 0, 0, 0] inb_S2x16x7x7x16_S1x16x7x7x16_0_0_0_0_0
abbrev slot1 : Memref sig .scVector .vmem S16x7x7x16 .f32 := slotB ![1, 0, 0, 0, 0] inb_S2x16x7x7x16_S1x16x7x7x16_1_0_0_0_0
abbrev sem0 : DmaSem sig := (cc0_scratch3 : DmaSems sig S_).sem
abbrev sem1 : DmaSem sig := (cc0_scratch4 : DmaSems sig S_).sem

/-- The wait for a batch's copy. -/
def waitBatch (i : grid0.Coords) (s : DmaSem sig) (src : Memref sig .scVector .vmem S16x7x7x16 .f32) (hs : src.view.WordExact)
    (o : Fin 5 → ℕ) (ho : ∀ a, o a + S16x7x7x1x16.size a ≤ S10000x7x7x4x16.size a) : TProg F i PUnit :=
  Prog.lift (.waitDma2 s src (batchB o ho) hs ((View.wordExact_bits rfl).reshape _ _))
/-- The start of a batch's copy. -/
def sendBatch (i : grid0.Coords) (s : DmaSem sig) (src : Memref sig .scVector .vmem S16x7x7x16 .f32) (hs : src.view.WordExact)
    (o : Fin 5 → ℕ) (ho : ∀ a, o a + S16x7x7x1x16.size a ≤ S10000x7x7x4x16.size a) : TProg F i PUnit :=
  Prog.lift (.enqueueDma src (.here (batchB o ho)) (.dma s) hs ((View.wordExact_bits rfl).reshape _ _) ⟨Or.inl rfl, trivial⟩)

/-- Trip `k` of the pairs, up to its last copy: batch `2k` through slot 0, batch `2k + 1` into slot 1. -/
def pairFill (i : grid0.Coords) (k : Fin k0_t1_loop.trips) : TProg F i (BitVec 32) := do
  if h : k0_cond1 k = 1#1 then do
    waitBatch i sem0 slot0 ((View.wordExact_bits rfl).reshape _ _) (k0_off3 i k) (k0_off3_inb i k h)
    pure ⟨⟩
  else do
    pure ⟨⟩
  let _ ← Scf.Loop.for k0_t2_loop k0_t2_ok 0#32 fun j _ =>
    fillProg i (k0_off4 k j) (k0_off4_inb k j) (k0_off9 j) (k0_off9_inb j)
  sendBatch i sem0 slot0 ((View.wordExact_bits rfl).reshape _ _) (k0_off10 i k) (k0_off10_inb i k)
  if h : k0_cond2 k = 1#1 then do
    waitBatch i sem1 slot1 ((View.wordExact_bits rfl).reshape _ _) (k0_off11 i k) (k0_off11_inb i k h)
    pure ⟨⟩
  else do
    pure ⟨⟩
  let _ ← Scf.Loop.for k0_t5_loop k0_t5_ok 0#32 fun j _ =>
    fillProg i (k0_off12 k j) (k0_off12_inb k j) (k0_off17 j) (k0_off17_inb j)
  pure (Scalar.addi (Scalar.muli 2#32 (Scf.iv 0#32 1#32 k)) 1#32)

/-- Trip `k` of the pairs. -/
def pairProg (i : grid0.Coords) (k : Fin k0_t1_loop.trips) : TProg F i (BitVec 32) := do
  let _ ← pairFill i k
  sendBatch i sem1 slot1 ((View.wordExact_bits rfl).reshape _ _) (k0_off18 i k) (k0_off18_inb i k)
  pure 0#32

/-- The channel group's feature map, and the roi group's rois, where the tile reads them. -/
abbrev fmSrc (i : grid0.Coords) : Memref sig .scVector .hbm S64x64x16 .f32 :=
  ((Memref.whole main_v2_scv : Memref sig .scVector .hbm S4x64x64x16 .f32).slice
    (Rect.unit (s := S4x64x64x16) (k0_off1 i) S1x64x64x16.size (k0_off1_inb i)) (fun _ => rfl)).squeeze S64x64x16 squeezes_S1x64x64x16_S64x64x16
@[inherit_doc fmSrc] abbrev roiSrc (i : grid0.Coords) : Memref sig .scVector .hbm S1250x16 .i32 :=
  ((Memref.whole main_v5_scv : Memref sig .scVector .hbm S8x1250x16 .i32).slice
    (Rect.unit (s := S8x1250x16) (k0_off2 i) S1x1250x16.size (k0_off2_inb i)) (fun _ => rfl)).squeeze S1250x16 squeezes_S1x1250x16_S1250x16
/-- The last two rois' cells in slot 0, and their place in the results. -/
abbrev slotT : Memref sig .scVector .vmem S2x7x7x16 .f32 :=
  (outB.slice (Rect.unit (s := S2x16x7x7x16) ![0, 0, 0, 0, 0] S1x2x7x7x16.size inb_S2x16x7x7x16_S1x2x7x7x16_0_0_0_0_0) (fun _ => rfl)).squeeze
    S2x7x7x16 squeezes_S1x2x7x7x16_S2x7x7x16
@[inherit_doc slotT] abbrev tailB (i : grid0.Coords) : Memref sig .scVector .hbm S2x7x7x16 .f32 :=
  (resB.slice (Rect.unit (s := S10000x7x7x4x16) (k0_off26 i) S2x7x7x1x16.size (k0_off26_inb i)) (fun _ => rfl)).squeeze
    S2x7x7x16 squeezes_S2x7x7x1x16_S2x7x7x16

/-- The rois brought in once the feature map is; the pairs of batches. -/
def mainProg (i : grid0.Coords) : TProg F i PUnit := do
  Prog.lift (.waitDma2 (cc0_scoped0 : DmaSems sig S_).sem (fmSrc i) fmB ((View.wordExact_bits rfl).reshape _ _) (Memref.isWhole_whole _).wordExact)
  Prog.lift (.enqueueDma (roiSrc i) (.here roiB) (.dma (cc0_scoped1 : DmaSems sig S_).sem) ((View.wordExact_bits rfl).reshape _ _)
    (Memref.isWhole_whole _).wordExact ⟨Or.inl rfl, trivial⟩)
  Prog.lift (.waitDma2 (cc0_scoped1 : DmaSems sig S_).sem (roiSrc i) roiB ((View.wordExact_bits rfl).reshape _ _) (Memref.isWhole_whole _).wordExact)
  let _ ← Scf.Loop.for k0_t1_loop k0_t1_ok 0#32 fun k _ => pairProg i k
  pure ⟨⟩

/-- The last two rois, once slot 0 is free, up to the start of their copy. -/
def tailProg (i : grid0.Coords) : TProg F i PUnit := do
  waitBatch i sem0 slot0 ((View.wordExact_bits rfl).reshape _ _) (k0_off19 i 1216#32) (k0_off19_inb i 0)
  let _ ← Scf.Loop.for k0_t8_loop k0_t8_ok 0#32 fun j _ =>
    fillProg i (k0_off20 j) (k0_off20_inb j) (k0_off25 j) (k0_off25_inb j)
  Prog.lift (.enqueueDma slotT (.here (tailB i)) (.dma sem0) ((View.wordExact_bits rfl).reshape _ _) ((View.wordExact_bits rfl).reshape _ _)
    ⟨Or.inl rfl, trivial⟩)
  pure ⟨⟩

/-- A tile's body: the feature map brought in, the batches, the last two rois, both slots' last copies waited for. -/
def bodyProg (i : grid0.Coords) : TProg F i PUnit := do
  Prog.lift (.enqueueDma (fmSrc i) (.here fmB) (.dma (cc0_scoped0 : DmaSems sig S_).sem) ((View.wordExact_bits rfl).reshape _ _)
    (Memref.isWhole_whole _).wordExact ⟨Or.inl rfl, trivial⟩)
  mainProg i
  tailProg i
  waitBatch i sem1 slot1 ((View.wordExact_bits rfl).reshape _ _) (k0_off19 i 1232#32) (k0_off19_inb i 1)
  Prog.lift (.waitDma2 sem0 slotT (tailB i) ((View.wordExact_bits rfl).reshape _ _) ((View.wordExact_bits rfl).reshape _ _))
  pure ⟨⟩

/-- The printed body at the kernel's own buffers. -/
abbrev printed (i : grid0.Coords) : TProg F i PUnit :=
  cc0_roi_kernel i (Memref.whole main_v2_scv) (Memref.isWhole_whole _) (Memref.whole main_v5_scv) (Memref.isWhole_whole _)
    (Memref.whole main_v6_scv) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scoped0 cc0_scoped1

/-- The printed piece that brings the rois in and runs the pairs. -/
theorem part9_eq (i : grid0.Coords) (v : BitVec 32) :
    k0_part9 (F := F) i (Memref.whole main_v2_scv) (Memref.isWhole_whole _) (Memref.whole main_v5_scv) (Memref.isWhole_whole _)
    (Memref.whole main_v6_scv) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scoped0 cc0_scoped1 v
      = mainProg i >>= fun _ => pure ⟨lanes, isRow, posF⟩ := by
  unfold mainProg; simp only [bind_assoc, pure_bind]; rfl

/-- The printed piece that runs the last two rois. -/
theorem part10_eq (i : grid0.Coords) (v : BitVec 32) :
    k0_part10 (F := F) i (Memref.whole main_v2_scv) (Memref.isWhole_whole _) (Memref.whole main_v5_scv) (Memref.isWhole_whole _)
    (Memref.whole main_v6_scv) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scoped0 cc0_scoped1 v lanes isRow posF = tailProg i := rfl

/-- The printed body is the regrouped one. -/
theorem printed_eq (i : grid0.Coords) : printed (F := F) i = bodyProg i := by
  unfold printed cc0_roi_kernel
  simp only [part9_eq, part10_eq, bind_assoc, pure_bind]
  rfl

end Cert.Proof.KernelIdeal

end
-- ==== Proof.Ideal.Cell.lean ====
/-
  What one roi's cells hold: the lanes of its vectors, the bounds of its coordinates, and the contents of an output slot
  as the cells are written.
-/
module

public import proofs.«01_k».proof.Proof.Ideal.Body
public import Idealize.ShloMosaic.Lib.Pipeline.Value

@[expose] public section

noncomputable section

namespace Cert.Proof.KernelIdeal

open Cert.KernelIdeal Cert.KernelIdeal.Gen
open Idealize.ShloMosaic
open Idealize.SL.Sem

variable {F : FTy → Type}

/-! ## Lanes -/

/-- Lane `n`. -/
def lane (n : Fin 16) : S16.Idx := Shape.ofLane (d := ![16]) n

theorem lane_zero (n : Fin 16) : lane n 0 = n := rfl

theorem eq_lane (j : S16.Idx) : j = lane (j 0) := by
  funext a; fin_cases a; rfl

theorem lanes_lane (n : Fin 16) : lanes (lane n) = BitVec.ofNat 32 n.val := by
  revert n; decide

theorem sel_lane (x : IVec S16 32) (n m : Fin 16) :
    select (cmpi .eq lanes (broadcast S16 (BitVec.ofNat 32 n.val))) x (broadcast S16 0#32) (lane m) = if m = n then x (lane m) else 0#32 := by
  show Scalar.select (IntOp.cmpi .eq (lanes (lane m)) (BitVec.ofNat 32 n.val)) (x (lane m)) 0#32 = _
  rw [lanes_lane]
  by_cases hmn : m = n
  · subst hmn; simp [IntOp.cmpi, Scalar.select]
  · have h : (BitVec.ofNat 32 m.val == BitVec.ofNat 32 n.val) = false := by
      rw [beq_eq_false_iff_ne]
      intro hh; apply hmn; apply Fin.ext
      have := congrArg BitVec.toNat hh; simp at this; omega
    simp [IntOp.cmpi, Scalar.select, hmn, h]

theorem scan_last (v : IVec S16 32) : extractAt ![15] (scan .sum v) inpos_S16_p15
    = ((List.finRange 16).filter fun k => decide (0 < k.val ∧ k.val ≤ 15)).foldl (fun r k => IntOp.addi r (v (lane k))) (v (lane 0)) := rfl

/-- The masked sum picks the lane. -/
theorem pickI_lane (x : IVec S16 32) (n : Fin 16) : pickI x (BitVec.ofNat 32 n.val) = x (lane n) := by
  unfold pickI
  rw [scan_last]
  simp only [sel_lane]
  have : ((List.finRange 16).filter fun k => decide (0 < k.val ∧ k.val ≤ 15)) = [1,2,3,4,5,6,7,8,9,10,11,12,13,14,15] := by decide
  rw [this]
  fin_cases n <;> simp [IntOp.addi]

theorem iv7 {n : ℕ} (p : Fin n) : Scf.iv 0#32 1#32 p = BitVec.ofNat 32 p.val := by
  simp [Scf.iv]

/-- The lanes of a row and of a column of cells. -/
def lo (p : Fin 7) : Fin 16 := ⟨p.val, by omega⟩
@[inherit_doc lo] def hi (q : Fin 7) : Fin 16 := ⟨8 + q.val, by omega⟩

theorem ext_lane (w : FVec F S16 .f32) (n : Fin 16) (hn : S16.Slices ![n.val] S1) : ext w n hn = w (lane n) := by
  unfold ext extractAt extractStridedSlice
  refine congrArg w (funext fun a => Fin.ext ?_)
  fin_cases a
  show _ + _ = _
  simp [lane, Shape.ofLane]

theorem pick7_ofNat (p : Fin 7) (x : Fin 7 → F .f32) : pick7 (BitVec.ofNat 32 p.val) (x 0) (x 1) (x 2) (x 3) (x 4) (x 5) (x 6) = x p := by
  fin_cases p <;> rfl

theorem pickY_lane (w : FVec F S16 .f32) (p : Fin 7) : pickY w (BitVec.ofNat 32 p.val) = w (lane (lo p)) := by
  unfold pickY
  simp only [ext_lane]
  exact pick7_ofNat p fun p => w (lane (lo p))

theorem pickX_lane (w : FVec F S16 .f32) (q : Fin 7) : pickX w (BitVec.ofNat 32 q.val) = w (lane (hi q)) := by
  unfold pickX
  simp only [ext_lane]
  exact pick7_ofNat q fun q => w (lane (hi q))

theorem pickI_lo (x : IVec S16 32) (p : Fin 7) : pickI x (BitVec.ofNat 32 p.val) = x (lane (lo p)) := pickI_lane x (lo p)
theorem pickI_hi (x : IVec S16 32) (q : Fin 7) : pickI x (Scalar.addi 8#32 (BitVec.ofNat 32 q.val)) = x (lane (hi q)) := by
  rw [← pickI_lane x (hi q)]
  congr 1
  fin_cases q <;> rfl

/-! ## Bounds -/

/-- A clipped coordinate is the coordinate clamped between 0 and 63. -/
theorem clipV_toNat (x : IVec S16 32) (j : S16.Idx) : ((clipV x j).toNat : ℤ) = min 63 (max 0 (x j).toInt) := by
  show ((IntOp.minsi 63#32 (IntOp.maxsi 0#32 (x j))).toNat : ℤ) = _
  generalize x j = y
  have hy := BitVec.toInt_eq_toNat_cond y
  have := y.isLt
  unfold IntOp.minsi IntOp.maxsi
  simp only [BitVec.slt_eq_decide]
  have e0 : (0#32).toInt = 0 := rfl
  have e1 : (63#32).toInt = 63 := rfl
  have e2 : (63#32).toNat = 63 := rfl
  have e3 : (0#32).toNat = 0 := rfl
  simp only [e0, e1]
  split_ifs at * <;> simp only [e0, e1, e2, e3, decide_eq_true_eq] at * <;> omega

theorem clipV_lt (x : IVec S16 32) (j : S16.Idx) : (clipV x j).toNat < 64 := by
  have := clipV_toNat x j; omega

theorem chk_off (y x : BitVec 32) (hy : y.toNat < 64) (hx : x.toNat < 64) (a : Fin 3) :
    (![(Scalar.indexCast y).toNat, (Scalar.indexCast x).toNat, 0] : Fin 3 → ℕ) a + S1x1x16.size a ≤ S64x64x16.size a := by
  fin_cases a
  · show y.toNat + 1 ≤ 64; omega
  · show x.toNat + 1 ≤ 64; omega
  · show 0 + 16 ≤ 16; omega

theorem chk1_of {ya yb xa : BitVec 32} (h1 : ya.toNat < 64) (h2 : yb.toNat < 64) (h3 : xa.toNat < 64) : k0_chk1 ya yb xa :=
  ⟨chk_off ya xa h1 h3, chk_off yb xa h2 h3⟩
theorem chk2_of {ya yb xb : BitVec 32} (h1 : ya.toNat < 64) (h2 : yb.toNat < 64) (h3 : xb.toNat < 64) : k0_chk2 ya yb xb :=
  ⟨chk_off ya xb h1 h3, chk_off yb xb h2 h3⟩

/-! ## A cell's value -/

/-- The contents of the feature map's buffer, of the rois' and of the output slots'. -/
abbrev FmC (F : FTy → Type) : Type := S64x64x16.Idx → F .f32
@[inherit_doc FmC] abbrev RoiC : Type := S1250x16.Idx → BitVec 32
@[inherit_doc FmC] abbrev OutC (F : FTy → Type) : Type := S2x16x7x7x16.Idx → F .f32

/-- An index of the feature map. -/
def fmIx (y x : ℕ) (ch : Fin 16) : S64x64x16.Idx := fun a => match a with
  | 0 => (⟨y % 64, Nat.mod_lt _ (by decide)⟩ : Fin 64)
  | 1 => (⟨x % 64, Nat.mod_lt _ (by decide)⟩ : Fin 64)
  | 2 => ch

variable [FloatOps F]

/-- The vector of cell `(p, q)` of the roi `h`. -/
def cellV (fm : FmC F) (h : IVec S16 32) (p q : Fin 7) : FVec F S16 .f32 :=
  lerpV (wtV h (lane (lo p))) (wtV h (lane (hi q)))
    (fun j => fm (fmIx (aV (F := F) h (lane (lo p))).toNat (aV (F := F) h (lane (hi q))).toNat (j 0)))
    (fun j => fm (fmIx (aV (F := F) h (lane (lo p))).toNat (bV (F := F) h (lane (hi q))).toNat (j 0)))
    (fun j => fm (fmIx (bV (F := F) h (lane (lo p))).toNat (aV (F := F) h (lane (hi q))).toNat (j 0)))
    (fun j => fm (fmIx (bV (F := F) h (lane (lo p))).toNat (bV (F := F) h (lane (hi q))).toNat (j 0)))

/-- The value of channel `ch` of a cell. -/
def cellF (fm : FmC F) (h : IVec S16 32) (p q : Fin 7) (ch : Fin 16) : F .f32 := cellV fm h p q (lane ch)

/-- Roi `n` of the rois' buffer. -/
def roiRow (rois : RoiC) (n : Fin 1250) : IVec S16 32 := fun j => rois fun a => match a with | 0 => n | 1 => j 0

/-- A vector of the feature map, read. -/
theorem read_fm (fm : FmC F) (o : Fin 3 → ℕ) (ho : ∀ a, o a + S1x1x16.size a ≤ S64x64x16.size a) (y x : ℕ) (h : o = ![y, x, 0]) :
    shapeCast S16 (fmB.view.readAt (Elt F) (fmAt o ho).toLoadRect fm) shapeCasts_S1x1x16_S16 = fun j => fm (fmIx y x (j 0)) := by
  subst h
  have h0 : y + 1 ≤ 64 := ho 0
  have h1 : x + 1 ≤ 64 := ho 1
  funext j
  let x3 : S1x1x16.Idx := fun a => match a with | 0 => (0 : Fin 1) | 1 => (0 : Fin 1) | 2 => j 0
  rw [shapeCast_apply _ _ j x3 (by
    rw [Shape.rowMajor_val_three, Shape.rowMajor_val_one]; show (0 * 1 + 0) * 16 + (j 0).val = _; omega)]
  refine congrArg fm (funext fun a => Fin.ext ?_)
  fin_cases a
  · show y + 1 * 0 = y % 64; rw [Nat.mod_eq_of_lt (by omega)]; omega
  · show x + 1 * 0 = x % 64; rw [Nat.mod_eq_of_lt (by omega)]; omega
  · show 0 + 1 * (j 0).val = (j 0).val; omega

/-- A roi, read. -/
theorem read_roi (rois : RoiC) (o : Fin 2 → ℕ) (ho : ∀ a, o a + S1x16.size a ≤ S1250x16.size a) (n : Fin 1250) (h : o = ![n.val, 0]) :
    shapeCast S16 (roiB.view.readAt (Elt F) (Rect.unit (s := S1250x16) o S1x16.size ho).toLoadRect rois) shapeCasts_S1x16_S16 = roiRow rois n := by
  subst h
  funext j
  let x2 : S1x16.Idx := fun a => match a with | 0 => (0 : Fin 1) | 1 => j 0
  rw [shapeCast_apply _ _ j x2 (by
    rw [Shape.rowMajor_val_two, Shape.rowMajor_val_one]; show 0 * 16 + (j 0).val = _; omega)]
  refine congrArg rois (funext fun a => Fin.ext ?_)
  fin_cases a
  · show n.val + 1 * 0 = n.val; omega
  · show 0 + 1 * (j 0).val = (j 0).val; omega

/-- A vector of an output slot, written. -/
theorem write_out (g : OutC F) (v : FVec F S16 .f32) (o : Fin 5 → ℕ) (ho : ∀ a, o a + S1x1x1x1x16.size a ≤ S2x16x7x7x16.size a)
    (s j p q : ℕ) (h : o = ![s, j, p, q, 0]) :
    (outB.access (outAt o ho)).write (Elt F) g (shapeCast S1x1x1x1x16 v shapeCasts_S16_S1x1x1x1x16) Finset.univ
      = fun ix : S2x16x7x7x16.Idx => if (ix 0).val = s ∧ (ix 1).val = j ∧ (ix 2).val = p ∧ (ix 3).val = q then v (lane (ix 4)) else g ix := by
  subst h
  funext ix
  split_ifs with hc
  · obtain ⟨h0, h1, h2, h3⟩ := hc
    let x : S1x1x1x1x16.Idx := fun a => match a with | 0 => (0 : Fin 1) | 1 => (0 : Fin 1) | 2 => (0 : Fin 1) | 3 => (0 : Fin 1) | 4 => ix 4
    have hx : ix = (outB.access (outAt ![s, j, p, q, 0] ho)).emb x := by
      funext a; apply Fin.ext
      fin_cases a
      · show (ix 0).val = s + 1 * 0; omega
      · show (ix 1).val = j + 1 * 0; omega
      · show (ix 2).val = p + 1 * 0; omega
      · show (ix 3).val = q + 1 * 0; omega
      · show (ix 4).val = 0 + 1 * (ix 4).val; omega
    conv_lhs => rw [hx]
    rw [View.write_emb_of_mem _ _ (Finset.mem_univ x)]
    show shapeCast S1x1x1x1x16 v shapeCasts_S16_S1x1x1x1x16 x = _
    exact shapeCast_apply _ _ x (lane (ix 4)) (by
      rw [Shape.rowMajor_val_five, Shape.rowMajor_val_one]; show (ix 4).val = ((((0 * 1 + 0) * 1 + 0) * 1) + 0) * 16 + (ix 4).val; omega)
  · refine View.write_of_not_mem _ _ _ fun hm => hc ?_
    have hm' := View.setOn_subset_set _ _ hm
    rw [View.set_slice_whole, Rect.mem_set_unit] at hm'
    have h0 := hm' 0; have h1 := hm' 1; have h2 := hm' 2; have h3 := hm' 3
    change s ≤ (ix 0).val ∧ (ix 0).val < s + 1 at h0
    change j ≤ (ix 1).val ∧ (ix 1).val < j + 1 at h1
    change p ≤ (ix 2).val ∧ (ix 2).val < p + 1 at h2
    change q ≤ (ix 3).val ∧ (ix 3).val < q + 1 at h3
    omega

/-- An output slot's contents while a roi is written: the cells before row `p`, column `q` of roi `j` hold their values. -/
def cellsTo (fm : FmC F) (h : IVec S16 32) (s j p q : ℕ) (g : OutC F) : OutC F := fun ix =>
  if (ix 0).val = s ∧ (ix 1).val = j ∧ ((ix 2).val < p ∨ (ix 2).val = p ∧ (ix 3).val < q) then cellF fm h (ix 2) (ix 3) (ix 4) else g ix

theorem cellsTo_zero (fm : FmC F) (h : IVec S16 32) (s j : ℕ) (g : OutC F) : cellsTo fm h s j 0 0 g = g := by
  funext ix; unfold cellsTo; rw [if_neg]; omega

theorem cellsTo_row (fm : FmC F) (h : IVec S16 32) (s j p : ℕ) (g : OutC F) : cellsTo fm h s j p 7 g = cellsTo fm h s j (p + 1) 0 g := by
  funext ix; unfold cellsTo
  have h3 : (ix 3).val < 7 := (ix 3).isLt
  refine if_congr ?_ rfl rfl
  omega

theorem cellsTo_step (fm : FmC F) (h : IVec S16 32) (s j : ℕ) (p q : Fin 7) (g : OutC F) :
    (fun ix : S2x16x7x7x16.Idx => if (ix 0).val = s ∧ (ix 1).val = j ∧ (ix 2).val = p.val ∧ (ix 3).val = q.val then cellV fm h p q (lane (ix 4))
      else cellsTo fm h s j p q g ix) = cellsTo fm h s j p (q + 1) g := by
  funext ix; unfold cellsTo
  by_cases hc : (ix 0).val = s ∧ (ix 1).val = j ∧ (ix 2).val = p.val ∧ (ix 3).val = q.val
  · have e2 : ix 2 = p := Fin.ext hc.2.2.1
    have e3 : ix 3 = q := Fin.ext hc.2.2.2
    rw [if_pos hc, if_pos (by omega), e2, e3]; rfl
  · rw [if_neg hc]
    refine if_congr ?_ rfl rfl
    omega

/-- An output slot's contents while its rois are written: rois `base`, `base + 1`, …, `base + n - 1` hold their cells. -/
def roisTo (fm : FmC F) (row : ℕ → IVec S16 32) (s n : ℕ) (g : OutC F) : OutC F := fun ix =>
  if (ix 0).val = s ∧ (ix 1).val < n then cellF fm (row (ix 1).val) (ix 2) (ix 3) (ix 4) else g ix

theorem roisTo_zero (fm : FmC F) (row : ℕ → IVec S16 32) (s : ℕ) (g : OutC F) : roisTo fm row s 0 g = g := by
  funext ix; unfold roisTo; rw [if_neg]; omega

theorem roisTo_step (fm : FmC F) (row : ℕ → IVec S16 32) (s n : ℕ) (g : OutC F) :
    cellsTo fm (row n) s n 7 0 (roisTo fm row s n g) = roisTo fm row s (n + 1) g := by
  funext ix; unfold cellsTo roisTo
  have h2 : (ix 2).val < 7 := (ix 2).isLt
  by_cases hc : (ix 0).val = s ∧ (ix 1).val = n
  · rw [if_pos (by omega), if_pos (by omega), hc.2]
  · rw [if_neg (by omega)]
    refine if_congr ?_ rfl rfl
    omega

end Cert.Proof.KernelIdeal

end
-- ==== Proof.Ideal.Fill.lean ====
/-
  The programs that fill an output slot, run: a cell, a row of cells, a roi, a slot's rois.
-/
module

public import proofs.«01_k».proof.Proof.Ideal.Cell

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The elements of output slot `s`. -/
def slotSet (s : ℕ) : Finset S2x16x7x7x16.Idx := Finset.univ.filter fun ix => (ix 0).val = s

theorem out_subset (o : Fin 5 → ℕ) (ho : ∀ a, o a + S1x1x1x1x16.size a ≤ S2x16x7x7x16.size a) (s : ℕ) (h : o 0 = s) :
    (outB.access (outAt o ho)).set ⊆ slotSet s := by
  intro ix hm
  rw [View.set_slice_whole, Rect.mem_set_unit] at hm
  have h0 := hm 0
  change o 0 ≤ (ix 0).val ∧ (ix 0).val < o 0 + 1 at h0
  refine Finset.mem_filter.mpr ⟨Finset.mem_univ _, ?_⟩
  omega

theorem t3_trips : k0_t3_loop.trips = 7 := by decide
theorem t4_trips : k0_t4_loop.trips = 7 := by decide

theorem cellsTo_trips4 (fm : FmC F) (h : IVec S16 32) (s j p : ℕ) (g : OutC F) :
    cellsTo fm h s j p k0_t4_loop.trips g = cellsTo fm h s j (p + 1) 0 g := by rw [t4_trips, cellsTo_row]
theorem cellsTo_trips3 (fm : FmC F) (h : IVec S16 32) (s j : ℕ) (g : OutC F) :
    cellsTo fm h s j k0_t3_loop.trips 0 g = cellsTo fm h s j 7 0 g := by rw [t3_trips]

/-- Where a cell's four vectors lie. -/
theorem off5_eq (y x : BitVec 32) : k0_off5 y x = ![y.toNat, x.toNat, 0] := rfl
@[inherit_doc off5_eq] theorem off6_eq (y x : BitVec 32) : k0_off6 y x = ![y.toNat, x.toNat, 0] := rfl
@[inherit_doc off5_eq] theorem off7_eq (y x : BitVec 32) : k0_off7 y x = ![y.toNat, x.toNat, 0] := rfl
@[inherit_doc off5_eq] theorem off8_eq (y x : BitVec 32) : k0_off8 y x = ![y.toNat, x.toNat, 0] := rfl

/-- What a cell's store leaves, of the four vectors read. -/
theorem cell_written (fm : FmC F) (h : IVec S16 32) (s j : ℕ) (p q : Fin 7) (g : OutC F) (o : Fin 5 → ℕ)
    (ho : ∀ a, o a + S1x1x1x1x16.size a ≤ S2x16x7x7x16.size a) (hoe : o = ![s, j, p.val, q.val, 0])
    (aa ab ba bb : FVec F S1x1x16 .f32)
    (haa : shapeCast S16 aa shapeCasts_S1x1x16_S16 = fun j => fm (fmIx (aV (F := F) h (lane (lo p))).toNat (aV (F := F) h (lane (hi q))).toNat (j 0)))
    (hab : shapeCast S16 ab shapeCasts_S1x1x16_S16 = fun j => fm (fmIx (aV (F := F) h (lane (lo p))).toNat (bV (F := F) h (lane (hi q))).toNat (j 0)))
    (hba : shapeCast S16 ba shapeCasts_S1x1x16_S16 = fun j => fm (fmIx (bV (F := F) h (lane (lo p))).toNat (aV (F := F) h (lane (hi q))).toNat (j 0)))
    (hbb : shapeCast S16 bb shapeCasts_S1x1x16_S16 = fun j => fm (fmIx (bV (F := F) h (lane (lo p))).toNat (bV (F := F) h (lane (hi q))).toNat (j 0))) :
    (outB.access (outAt o ho)).write (Elt F) (cellsTo fm h s j p q g)
      (shapeCast S1x1x1x1x16 (lerpV (wtV h (lane (lo p))) (wtV h (lane (hi q)))
        (shapeCast S16 aa shapeCasts_S1x1x16_S16) (shapeCast S16 ab shapeCasts_S1x1x16_S16)
        (shapeCast S16 ba shapeCasts_S1x1x16_S16) (shapeCast S16 bb shapeCasts_S1x1x16_S16)) shapeCasts_S16_S1x1x1x1x16) Finset.univ
      = cellsTo fm h s j p (q + 1) g := by
  rw [haa, hab, hba, hbb]
  exact (write_out (cellsTo fm h s j p q g) (cellV fm h p q) o ho s j p q hoe).trans (cellsTo_step fm h s j p q g)

section
variable (d : Fin nD) (L : grid0.Coords)

/-- A tile's thread. -/
abbrev me : Thread nD τ := V d (cV L) (jV L)

/-- A program that only answers. -/
theorem wp_done {α : Type} (a : α) (Q : α → sProp (MT nD τ sig (HIx 1) (Elt F) ℕ UU ℕ)) :
    Q a ⊢ wp frame (wpE (defs₀ (F := F)) 𝒱₀ (me d L) none) Set.univ (pure a : TProg F L α) Q := by
  rw [show (pure a : TProg F L α) = Prog.ret a from rfl, wp_ret]
  iintro H
  imodintro
  iexact H

/-- The feature map and the output slot, as a cell finds them. -/
abbrev cellRes (q1 : PosShare TreeShare) (s : ℕ) (fm : FmC F) (g : OutC F) : sProp (MT nD τ sig (HIx 1) (Elt F) ℕ UU ℕ) :=
  iprop((fmB.view.loc (me d L) ↦{q1} fm) ∗ (outB.view.loc (me d L) ↦[slotSet s]{fullShare} g))

/-- A cell writes its value. -/
theorem wp_cell (q1 : PosShare TreeShare) (fm : FmC F) (h : IVec S16 32) (s j : ℕ) (p q : Fin 7) (g : OutC F) (o : Fin 5 → ℕ)
    (ho : ∀ a, o a + S1x1x1x1x16.size a ≤ S2x16x7x7x16.size a) (hoe : o = ![s, j, p.val, q.val, 0]) :
    cellRes d L q1 s fm (cellsTo fm h s j p q g)
      ⊢ wp frame (wpE (defs₀ (F := F)) 𝒱₀ (me d L) none) Set.univ
          (cellAt L h (BitVec.ofNat 32 p.val) (BitVec.ofNat 32 q.val) o ho)
          fun _ => cellRes d L q1 s fm (cellsTo fm h s j p (q + 1) g) := by
  have ha : ∀ j, (aV (F := F) h j).toNat < 64 := clipV_lt (addi (baseV h) (lowV (F := F) h))
  have hb : ∀ j, (bV (F := F) h j).toNat < 64 := clipV_lt (addi (baseV h) (nextV (F := F) h))
  have hS : (outB.access (outAt o ho)).set ⊆ slotSet s := out_subset o ho s (by rw [hoe]; rfl)
  unfold cellAt
  rw [pickI_lo, pickI_lo, pickI_hi, pickI_hi, pickY_lane, pickX_lane]
  unfold cellChk
  iintro ⟨Hf, Ho⟩
  iapply (wp_assume 𝒱₀ (me d L) none Set.univ (chk1_of (ha _) (hb _) (ha _)))
  iapply (wp_assume 𝒱₀ (me d L) none Set.univ (chk2_of (ha _) (hb _) (hb _)))
  unfold cellProg
  iapply (wp_load 𝒱₀ (me d L) none Set.univ (m := fmB) (S := Finset.univ) (Finset.subset_univ _)) $$ Hf; iintro Hf
  iapply (wp_load 𝒱₀ (me d L) none Set.univ (m := fmB) (S := Finset.univ) (Finset.subset_univ _)) $$ Hf; iintro Hf
  iapply (wp_load 𝒱₀ (me d L) none Set.univ (m := fmB) (S := Finset.univ) (Finset.subset_univ _)) $$ Hf; iintro Hf
  iapply (wp_load 𝒱₀ (me d L) none Set.univ (m := fmB) (S := Finset.univ) (Finset.subset_univ _)) $$ Hf; iintro Hf
  iapply (wp_load_rect 𝒱₀ (me d L) none Set.univ (m := outB) (r := outAt o ho) (S := slotSet s) hS) $$ Ho; iintro Ho
  iapply (wp_store 𝒱₀ (me d L) none Set.univ (m := outB) (r := outAt o ho) (Mk := Finset.univ) (S := slotSet s) hS) $$ Ho; iintro Ho
  iapply (wp_done d L)
  isplitl [Hf]
  · iexact Hf
  rw [cell_written fm h s j p q g o ho hoe _ _ _ _ (read_fm fm (k0_off5 (aV (F := F) h (lane (lo p))) (aV (F := F) h (lane (hi q)))) _ (aV (F := F) h (lane (lo p))).toNat (aV (F := F) h (lane (hi q))).toNat (off5_eq _ _))
    (read_fm fm (k0_off6 (aV (F := F) h (lane (lo p))) (bV (F := F) h (lane (hi q)))) _ (aV (F := F) h (lane (lo p))).toNat (bV (F := F) h (lane (hi q))).toNat (off6_eq _ _))
    (read_fm fm (k0_off7 (bV (F := F) h (lane (lo p))) (aV (F := F) h (lane (hi q)))) _ (bV (F := F) h (lane (lo p))).toNat (aV (F := F) h (lane (hi q))).toNat (off7_eq _ _))
    (read_fm fm (k0_off8 (bV (F := F) h (lane (lo p))) (bV (F := F) h (lane (hi q)))) _ (bV (F := F) h (lane (lo p))).toNat (bV (F := F) h (lane (hi q))).toNat (off8_eq _ _))]
  iexact Ho

/-- A roi's cells are written. -/
theorem wp_fill (q1 q2 : PosShare TreeShare) (fm : FmC F) (rois : RoiC) (n : Fin 1250) (s j : ℕ) (g : OutC F)
    (ro : Fin 2 → ℕ) (hro : ∀ a, ro a + S1x16.size a ≤ S1250x16.size a) (hre : ro = ![n.val, 0])
    (o : Fin k0_t3_loop.trips → Fin k0_t4_loop.trips → Fin 5 → ℕ)
    (ho : ∀ p q, ∀ a, o p q a + S1x1x1x1x16.size a ≤ S2x16x7x7x16.size a) (hoe : ∀ p q, o p q = ![s, j, p.val, q.val, 0]) :
    iprop((roiB.view.loc (me d L) ↦{q2} rois) ∗ cellRes d L q1 s fm g)
      ⊢ wp frame (wpE (defs₀ (F := F)) 𝒱₀ (me d L) none) Set.univ (fillProg (F := F) L ro hro o ho)
          fun _ => iprop((roiB.view.loc (me d L) ↦{q2} rois) ∗ cellRes d L q1 s fm (cellsTo fm (roiRow rois n) s j 7 0 g)) := by
  unfold fillProg
  iintro ⟨Hr, Hc⟩
  iapply (wp_load 𝒱₀ (me d L) none Set.univ (m := roiB) (S := Finset.univ) (Finset.subset_univ _)) $$ Hr; iintro Hr
  rw [Prog.bind.eq_1]
  rw [read_roi rois ro hro n hre]
  iapply (Scf.wp_for_bind frame (wpE (defs₀ (F := F)) 𝒱₀ (me d L) none) Set.univ _ _ _ k0_t3_ok 0#32 _
    (fun p _ => cellRes d L q1 s fm (cellsTo fm (roiRow rois n) s j p 0 g)) (fun p acc => by
      iintro Hc
      iapply (Scf.wp_for_bind frame (wpE (defs₀ (F := F)) 𝒱₀ (me d L) none) Set.univ _ _ _ k0_t4_ok 0#32 _
        (fun q _ => cellRes d L q1 s fm (cellsTo fm (roiRow rois n) s j p q g)) (fun q acc => by
          rw [iv7, iv7]
          exact wp_cell d L q1 fm (roiRow rois n) s j (p.cast t3_trips) (q.cast t4_trips) g (o p q) (ho p q) (hoe p q))) $$ Hc
      iintro %acc' Hc
      rw [cellsTo_trips4]
      iapply (wp_done d L)
      iexact Hc)) $$ [Hc]
  · rw [cellsTo_zero]; iexact Hc
  iintro %acc' Hc
  rw [cellsTo_trips3]
  iapply (wp_done d L)
  isplitl [Hr]
  · iexact Hr
  iexact Hc

end

end Cert.Proof.KernelIdeal

end
-- ==== Proof.Ideal.Places.lean ====
/-
  Where a tile reads and writes: its channel group, its roi group, and the places of its batches in the results.
-/
module

public import proofs.«01_k».proof.Proof.Ideal.Fill

@[expose] public section

noncomputable section

namespace Cert.Proof.KernelIdeal

open Cert.KernelIdeal Cert.KernelIdeal.Gen
open Idealize.ShloMosaic
open Idealize.SL.Sem

variable {F : FTy → Type} [FloatOps F]

/-- The coordinates of core `c`, tile `s`. -/
def coordsV (c : Fin (grid0.bound 0)) (s : Fin (grid0.bound 1)) : grid0.Coords :=
  fun a => match a with
    | ⟨0, h⟩ => c
    | ⟨1, h⟩ => s

theorem eq_coordsV (L : grid0.Coords) : L = coordsV (L 0) (L 1) := by
  funext a; fin_cases a <;> rfl

/-- The tile's channel group and its roi group. -/
def cgN (c : Fin (grid0.bound 0)) (s : Fin (grid0.bound 1)) : ℕ := (2 * s.val + c.val) / 8
@[inherit_doc cgN] def rgN (c : Fin (grid0.bound 0)) (s : Fin (grid0.bound 1)) : ℕ := (2 * s.val + c.val) % 8

@[inherit_doc cgN] def cg (L : grid0.Coords) : ℕ := cgN (L 0) (L 1)
@[inherit_doc cgN] def rg (L : grid0.Coords) : ℕ := rgN (L 0) (L 1)

theorem cg_lt (L : grid0.Coords) : cg L < 4 := by
  have h0 : (L 0).val < 2 := (L 0).isLt
  have h1 : (L 1).val < 16 := (L 1).isLt
  unfold cg cgN; omega
theorem rg_lt (L : grid0.Coords) : rg L < 8 := Nat.mod_lt _ (by decide)

theorem off1_all : ∀ c s, k0_off1 (coordsV c s) = ![cgN c s, 0, 0, 0] := by decide +kernel
theorem off2_all : ∀ c s, k0_off2 (coordsV c s) = ![rgN c s, 0, 0] := by decide +kernel
theorem off10_all : ∀ c s k, k0_off10 (coordsV c s) k = ![1250 * rgN c s + 32 * k.val, 0, 0, cgN c s, 0] := by decide +kernel
theorem off18_all : ∀ c s k, k0_off18 (coordsV c s) k = ![1250 * rgN c s + (32 * k.val + 16), 0, 0, cgN c s, 0] := by decide +kernel
theorem off26_all : ∀ c s, k0_off26 (coordsV c s) = ![1250 * rgN c s + 1248, 0, 0, cgN c s, 0] := by decide +kernel
theorem cond1_all : ∀ k, k0_cond1 k = 1#1 ↔ 0 < k.val := by decide +kernel
theorem cond2_all : ∀ k, k0_cond2 k = 1#1 ↔ 0 < k.val := by decide +kernel
theorem t1_trips : k0_t1_loop.trips = 39 := by decide
theorem t2_trips : k0_t2_loop.trips = 16 := by decide
theorem t5_trips : k0_t5_loop.trips = 16 := by decide
theorem t8_trips : k0_t8_loop.trips = 2 := by decide

theorem off1_at (L : grid0.Coords) : k0_off1 L = ![cg L, 0, 0, 0] := by
  conv_lhs => rw [eq_coordsV L]
  exact off1_all _ _
theorem off2_at (L : grid0.Coords) : k0_off2 L = ![rg L, 0, 0] := by
  conv_lhs => rw [eq_coordsV L]
  exact off2_all _ _
theorem off10_at (L : grid0.Coords) (k : Fin k0_t1_loop.trips) : k0_off10 L k = ![1250 * rg L + 32 * k.val, 0, 0, cg L, 0] := by
  conv_lhs => rw [eq_coordsV L]
  exact off10_all _ _ k
theorem off18_at (L : grid0.Coords) (k : Fin k0_t1_loop.trips) : k0_off18 L k = ![1250 * rg L + (32 * k.val + 16), 0, 0, cg L, 0] := by
  conv_lhs => rw [eq_coordsV L]
  exact off18_all _ _ k
theorem off26_at (L : grid0.Coords) : k0_off26 L = ![1250 * rg L + 1248, 0, 0, cg L, 0] := by
  conv_lhs => rw [eq_coordsV L]
  exact off26_all _ _

end Cert.Proof.KernelIdeal

end
-- ==== Proof.Ideal.Blocks.lean ====
/-
  The blocks a tile copies out: their elements, and what a copy of a filled slot leaves there.
-/
module

public import proofs.«01_k».proof.Proof.Ideal.Places

@[expose] public section

noncomputable section

namespace Cert.Proof.KernelIdeal

open Cert.KernelIdeal Cert.KernelIdeal.Gen
open Idealize.ShloMosaic
open Idealize.SL.Sem

variable {F : FTy → Type} [FloatOps F]

/-- The contents of the results. -/
abbrev ResC (F : FTy → Type) : Type := S10000x7x7x4x16.Idx → F .f32

/-- Rows `a` to `b` of roi group `r`, at channel group `c`. -/
def resRows (r c a b : ℕ) : Finset S10000x7x7x4x16.Idx :=
  Finset.univ.filter fun ix => 1250 * r + a ≤ (ix 0).val ∧ (ix 0).val < 1250 * r + b ∧ (ix 3).val = c

theorem mem_resRows {r c a b : ℕ} {ix : S10000x7x7x4x16.Idx} :
    ix ∈ resRows r c a b ↔ 1250 * r + a ≤ (ix 0).val ∧ (ix 0).val < 1250 * r + b ∧ (ix 3).val = c := by
  simp [resRows]

theorem resRows_empty (r c a : ℕ) : resRows r c a a = ∅ := by
  ext ix; rw [mem_resRows]; simp; omega

theorem resRows_union (r c : ℕ) {a b e : ℕ} (h1 : a ≤ b) (h2 : b ≤ e) : resRows r c a e = resRows r c a b ∪ resRows r c b e := by
  ext ix; rw [Finset.mem_union, mem_resRows, mem_resRows, mem_resRows]; omega

theorem resRows_disjoint (r c a b e : ℕ) : Disjoint (resRows r c a b) (resRows r c b e) := by
  rw [Finset.disjoint_left]
  intro ix; rw [mem_resRows, mem_resRows]; omega

theorem mem_slotSet {s : ℕ} {ix : S2x16x7x7x16.Idx} : ix ∈ slotSet s ↔ (ix 0).val = s := by simp [slotSet]

theorem slot_union : slotSet 0 ∪ slotSet 1 = Finset.univ := by
  ext ix; rw [Finset.mem_union, mem_slotSet, mem_slotSet]
  have : (ix 0).val < 2 := (ix 0).isLt
  simp; omega

theorem slot_disjoint : Disjoint (slotSet 0) (slotSet 1) := by
  rw [Finset.disjoint_left]; intro ix; rw [mem_slotSet, mem_slotSet]; omega

/-- A slot's elements. -/
theorem slotB_set (o : Fin 5 → ℕ) (ho : ∀ a, o a + S1x16x7x7x16.size a ≤ S2x16x7x7x16.size a) (s : ℕ) (h : o = ![s, 0, 0, 0, 0]) :
    (slotB o ho).view.set = slotSet s := by
  subst h
  show ((outB.view.slice (Rect.unit (s := S2x16x7x7x16) ![s, 0, 0, 0, 0] S1x16x7x7x16.size ho)).reshape S16x7x7x16
    squeezes_S1x16x7x7x16_S16x7x7x16.numel_eq).set = _
  rw [View.set_reshape, View.set_slice_whole]
  ext ix
  rw [Rect.mem_set_unit, mem_slotSet]
  constructor
  · intro hm
    have h0 := hm 0
    change s ≤ (ix 0).val ∧ (ix 0).val < s + 1 at h0
    omega
  · intro h0 a
    fin_cases a
    · show s ≤ (ix 0).val ∧ (ix 0).val < s + 1; omega
    · have : (ix 1).val < 16 := (ix 1).isLt
      show 0 ≤ (ix 1).val ∧ (ix 1).val < 0 + 16; omega
    · have : (ix 2).val < 7 := (ix 2).isLt
      show 0 ≤ (ix 2).val ∧ (ix 2).val < 0 + 7; omega
    · have : (ix 3).val < 7 := (ix 3).isLt
      show 0 ≤ (ix 3).val ∧ (ix 3).val < 0 + 7; omega
    · have : (ix 4).val < 16 := (ix 4).isLt
      show 0 ≤ (ix 4).val ∧ (ix 4).val < 0 + 16; omega

/-- The first two rois of slot 0. -/
def slotTSet : Finset S2x16x7x7x16.Idx := Finset.univ.filter fun ix => (ix 0).val = 0 ∧ (ix 1).val < 2

theorem slotTSet_subset : slotTSet ⊆ slotSet 0 := by
  intro ix h
  rw [mem_slotSet]
  exact (Finset.mem_filter.mp h).2.1

theorem slotT_set : slotT.view.set = slotTSet := by
  show ((outB.view.slice (Rect.unit (s := S2x16x7x7x16) ![0, 0, 0, 0, 0] S1x2x7x7x16.size inb_S2x16x7x7x16_S1x2x7x7x16_0_0_0_0_0)).reshape S2x7x7x16
    squeezes_S1x2x7x7x16_S2x7x7x16.numel_eq).set = _
  rw [View.set_reshape, View.set_slice_whole]
  ext ix
  rw [Rect.mem_set_unit, slotTSet, Finset.mem_filter]
  constructor
  · intro hm
    have h0 := hm 0
    have h1 := hm 1
    change 0 ≤ (ix 0).val ∧ (ix 0).val < 0 + 1 at h0
    change 0 ≤ (ix 1).val ∧ (ix 1).val < 0 + 2 at h1
    exact ⟨Finset.mem_univ _, by omega, by omega⟩
  · rintro ⟨-, h0, h1⟩ a
    fin_cases a
    · show 0 ≤ (ix 0).val ∧ (ix 0).val < 0 + 1; omega
    · show 0 ≤ (ix 1).val ∧ (ix 1).val < 0 + 2; omega
    · have : (ix 2).val < 7 := (ix 2).isLt
      show 0 ≤ (ix 2).val ∧ (ix 2).val < 0 + 7; omega
    · have : (ix 3).val < 7 := (ix 3).isLt
      show 0 ≤ (ix 3).val ∧ (ix 3).val < 0 + 7; omega
    · have : (ix 4).val < 16 := (ix 4).isLt
      show 0 ≤ (ix 4).val ∧ (ix 4).val < 0 + 16; omega

/-- A rectangle of `n` rows of the results at one channel group. -/
theorem rows_rect (sz : Fin 5 → ℕ) (n : ℕ) (hsz : sz = ![n, 7, 7, 1, 16]) (o : Fin 5 → ℕ) (ho : ∀ a, o a + sz a ≤ S10000x7x7x4x16.size a)
    (r c a : ℕ) (h : o = ![1250 * r + a, 0, 0, c, 0]) :
    (Rect.unit (s := S10000x7x7x4x16) o sz ho).set = resRows r c a (a + n) := by
  subst h hsz
  ext ix
  rw [Rect.mem_set_unit, mem_resRows]
  constructor
  · intro hm
    have h0 := hm 0
    have h3 := hm 3
    change 1250 * r + a ≤ (ix 0).val ∧ (ix 0).val < 1250 * r + a + n at h0
    change c ≤ (ix 3).val ∧ (ix 3).val < c + 1 at h3
    omega
  · intro hm b
    fin_cases b
    · show 1250 * r + a ≤ (ix 0).val ∧ (ix 0).val < 1250 * r + a + n; omega
    · have : (ix 1).val < 7 := (ix 1).isLt
      show 0 ≤ (ix 1).val ∧ (ix 1).val < 0 + 7; omega
    · have : (ix 2).val < 7 := (ix 2).isLt
      show 0 ≤ (ix 2).val ∧ (ix 2).val < 0 + 7; omega
    · show c ≤ (ix 3).val ∧ (ix 3).val < c + 1; omega
    · have : (ix 4).val < 16 := (ix 4).isLt
      show 0 ≤ (ix 4).val ∧ (ix 4).val < 0 + 16; omega

theorem batchB_set (o : Fin 5 → ℕ) (ho : ∀ a, o a + S16x7x7x1x16.size a ≤ S10000x7x7x4x16.size a) (r c a : ℕ)
    (h : o = ![1250 * r + a, 0, 0, c, 0]) : (batchB o ho).view.set = resRows r c a (a + 16) := by
  show ((resB.view.slice (Rect.unit (s := S10000x7x7x4x16) o S16x7x7x1x16.size ho)).reshape S16x7x7x16
    squeezes_S16x7x7x1x16_S16x7x7x16.numel_eq).set = _
  rw [View.set_reshape, View.set_slice_whole]
  exact rows_rect _ 16 rfl o ho r c a h

theorem tailB_set (L : grid0.Coords) : (tailB L).view.set = resRows (rg L) (cg L) 1248 1250 := by
  show ((resB.view.slice (Rect.unit (s := S10000x7x7x4x16) (k0_off26 L) S2x7x7x1x16.size (k0_off26_inb L))).reshape S2x7x7x16
    squeezes_S2x7x7x1x16_S2x7x7x16.numel_eq).set = _
  rw [View.set_reshape, View.set_slice_whole]
  exact rows_rect _ 2 rfl (k0_off26 L) (k0_off26_inb L) _ _ 1248 (off26_at L)

/-! ## What a copy leaves -/

/-- The values a tile computes, of its feature map and its rois: row `n` of the results holds the cells of roi `n`. -/
def rowAt (rois : RoiC) (n : ℕ) : IVec S16 32 := roiRow rois ⟨n % 1250, Nat.mod_lt _ (by decide)⟩

@[inherit_doc rowAt] def tileF (fm : FmC F) (rois : RoiC) (r : ℕ) : ResC F := fun ix =>
  cellF fm (rowAt rois ((ix 0).val - 1250 * r)) (ix 1) (ix 2) (ix 4)

/-- Slot `s` copied to a batch's place leaves the slot's contents there. -/
theorem batch_copied (so : Fin 5 → ℕ) (hso : ∀ a, so a + S1x16x7x7x16.size a ≤ S2x16x7x7x16.size a) (s : ℕ) (hse : so = ![s, 0, 0, 0, 0])
    (o : Fin 5 → ℕ) (ho : ∀ a, o a + S16x7x7x1x16.size a ≤ S10000x7x7x4x16.size a) (r c a : ℕ) (h : o = ![1250 * r + a, 0, 0, c, 0])
    (fm : FmC F) (rois : RoiC) (g : OutC F) (fd : ResC F) (ix : S10000x7x7x4x16.Idx) (hix : ix ∈ resRows r c a (a + 16)) :
    (batchB o ho).view.write (Elt F) fd ((slotB so hso).view.read (Elt F) (roisTo fm (fun j => rowAt rois (a + j)) s 16 g)) Finset.univ ix
      = tileF fm rois r ix := by
  rw [← batchB_set o ho r c a h] at hix
  obtain ⟨y, -, rfl⟩ := Finset.mem_map.mp hix
  rw [View.write_emb_of_mem _ _ (Finset.mem_univ y)]
  subst h hse
  have e1 : (batchB ![1250 * r + a, 0, 0, c, 0] ho).view.emb y
      = (Rect.unit (s := S10000x7x7x4x16) ![1250 * r + a, 0, 0, c, 0] S16x7x7x1x16.size ho).emb (Shape.reshapeEquiv squeezes_S16x7x7x1x16_S16x7x7x16.numel_eq y) := rfl
  let y1 : S16x7x7x1x16.Idx := fun b => match b with | 0 => y 0 | 1 => y 1 | 2 => y 2 | 3 => (0 : Fin 1) | 4 => y 3
  have e2 : Shape.reshapeEquiv squeezes_S16x7x7x1x16_S16x7x7x16.numel_eq y = y1 := Shape.reshapeEquiv_eq_of_rowMajor _ (by
    rw [Shape.rowMajor_val_five, Shape.rowMajor_val_four]
    show ((((y 0).val * 7 + (y 1).val) * 7 + (y 2).val) * 1 + 0) * 16 + (y 3).val = (((y 0).val * 7 + (y 1).val) * 7 + (y 2).val) * 16 + (y 3).val
    omega)
  have e3 : (slotB ![s, 0, 0, 0, 0] hso).view.emb y
      = (Rect.unit (s := S2x16x7x7x16) ![s, 0, 0, 0, 0] S1x16x7x7x16.size hso).emb (Shape.reshapeEquiv squeezes_S1x16x7x7x16_S16x7x7x16.numel_eq y) := rfl
  let y2 : S1x16x7x7x16.Idx := fun b => match b with | 0 => (0 : Fin 1) | 1 => y 0 | 2 => y 1 | 3 => y 2 | 4 => y 3
  have e4 : Shape.reshapeEquiv squeezes_S1x16x7x7x16_S16x7x7x16.numel_eq y = y2 := Shape.reshapeEquiv_eq_of_rowMajor _ (by
    rw [Shape.rowMajor_val_five, Shape.rowMajor_val_four]
    show ((((0 * 16 + (y 0).val) * 7 + (y 1).val) * 7 + (y 2).val)) * 16 + (y 3).val = (((y 0).val * 7 + (y 1).val) * 7 + (y 2).val) * 16 + (y 3).val
    omega)
  show roisTo fm (fun j => rowAt rois (a + j)) s 16 g ((slotB ![s, 0, 0, 0, 0] hso).view.emb y) = _
  rw [e3, e4, e1, e2]
  have hy0 : (y 0).val < 16 := (y 0).isLt
  have f0 : ((Rect.unit (s := S2x16x7x7x16) ![s, 0, 0, 0, 0] S1x16x7x7x16.size hso).emb y2 0).val = s := by
    show s + 1 * 0 = s; omega
  have f1 : ((Rect.unit (s := S2x16x7x7x16) ![s, 0, 0, 0, 0] S1x16x7x7x16.size hso).emb y2 1).val = (y 0).val := by
    show 0 + 1 * (y 0).val = _; omega
  have f2 : (Rect.unit (s := S2x16x7x7x16) ![s, 0, 0, 0, 0] S1x16x7x7x16.size hso).emb y2 2 = y 1 := Fin.ext (by
    show 0 + 1 * (y 1).val = _; omega)
  have f3 : (Rect.unit (s := S2x16x7x7x16) ![s, 0, 0, 0, 0] S1x16x7x7x16.size hso).emb y2 3 = y 2 := Fin.ext (by
    show 0 + 1 * (y 2).val = _; omega)
  have f4 : (Rect.unit (s := S2x16x7x7x16) ![s, 0, 0, 0, 0] S1x16x7x7x16.size hso).emb y2 4 = y 3 := Fin.ext (by
    show 0 + 1 * (y 3).val = _; omega)
  have g0 : ((Rect.unit (s := S10000x7x7x4x16) ![1250 * r + a, 0, 0, c, 0] S16x7x7x1x16.size ho).emb y1 0).val = 1250 * r + a + (y 0).val := by
    show 1250 * r + a + 1 * (y 0).val = _; omega
  have g1 : (Rect.unit (s := S10000x7x7x4x16) ![1250 * r + a, 0, 0, c, 0] S16x7x7x1x16.size ho).emb y1 1 = y 1 := Fin.ext (by
    show 0 + 1 * (y 1).val = _; omega)
  have g2 : (Rect.unit (s := S10000x7x7x4x16) ![1250 * r + a, 0, 0, c, 0] S16x7x7x1x16.size ho).emb y1 2 = y 2 := Fin.ext (by
    show 0 + 1 * (y 2).val = _; omega)
  have g4 : (Rect.unit (s := S10000x7x7x4x16) ![1250 * r + a, 0, 0, c, 0] S16x7x7x1x16.size ho).emb y1 4 = y 3 := Fin.ext (by
    show 0 + 1 * (y 3).val = _; omega)
  unfold roisTo tileF
  rw [if_pos ⟨f0, by rw [f1]; exact hy0⟩, f1, f2, f3, f4, g0, g1, g2, g4]
  rw [show 1250 * r + a + (y 0).val - 1250 * r = a + (y 0).val by omega]

/-- The last two rois' cells copied out. -/
theorem tail_copied (L : grid0.Coords) (fm : FmC F) (rois : RoiC) (g : OutC F) (fd : ResC F) (ix : S10000x7x7x4x16.Idx)
    (hix : ix ∈ resRows (rg L) (cg L) 1248 1250) :
    (tailB L).view.write (Elt F) fd (slotT.view.read (Elt F) (roisTo fm (fun j => rowAt rois (1248 + j)) 0 2 g)) Finset.univ ix
      = tileF fm rois (rg L) ix := by
  rw [← tailB_set L] at hix
  obtain ⟨y, -, rfl⟩ := Finset.mem_map.mp hix
  rw [View.write_emb_of_mem _ _ (Finset.mem_univ y)]
  have e1 : (tailB L).view.emb y
      = (Rect.unit (s := S10000x7x7x4x16) (k0_off26 L) S2x7x7x1x16.size (k0_off26_inb L)).emb (Shape.reshapeEquiv squeezes_S2x7x7x1x16_S2x7x7x16.numel_eq y) := rfl
  let y1 : S2x7x7x1x16.Idx := fun b => match b with | 0 => y 0 | 1 => y 1 | 2 => y 2 | 3 => (0 : Fin 1) | 4 => y 3
  have e2 : Shape.reshapeEquiv squeezes_S2x7x7x1x16_S2x7x7x16.numel_eq y = y1 := Shape.reshapeEquiv_eq_of_rowMajor _ (by
    rw [Shape.rowMajor_val_five, Shape.rowMajor_val_four]
    show ((((y 0).val * 7 + (y 1).val) * 7 + (y 2).val) * 1 + 0) * 16 + (y 3).val = (((y 0).val * 7 + (y 1).val) * 7 + (y 2).val) * 16 + (y 3).val
    omega)
  let rT : Rect S2x16x7x7x16 := Rect.unit (s := S2x16x7x7x16) ![0, 0, 0, 0, 0] S1x2x7x7x16.size inb_S2x16x7x7x16_S1x2x7x7x16_0_0_0_0_0
  have e3 : slotT.view.emb y = rT.emb (Shape.reshapeEquiv squeezes_S1x2x7x7x16_S2x7x7x16.numel_eq y) := rfl
  let y2 : S1x2x7x7x16.Idx := fun b => match b with | 0 => (0 : Fin 1) | 1 => y 0 | 2 => y 1 | 3 => y 2 | 4 => y 3
  have e4 : Shape.reshapeEquiv squeezes_S1x2x7x7x16_S2x7x7x16.numel_eq y = y2 := Shape.reshapeEquiv_eq_of_rowMajor _ (by
    rw [Shape.rowMajor_val_five, Shape.rowMajor_val_four]
    show ((((0 * 2 + (y 0).val) * 7 + (y 1).val) * 7 + (y 2).val)) * 16 + (y 3).val = (((y 0).val * 7 + (y 1).val) * 7 + (y 2).val) * 16 + (y 3).val
    omega)
  show roisTo fm (fun j => rowAt rois (1248 + j)) 0 2 g (slotT.view.emb y) = _
  rw [e3, e4, e1, e2]
  have hy0 : (y 0).val < 2 := (y 0).isLt
  have f0 : (rT.emb y2 0).val = 0 := by show 0 + 1 * 0 = 0; omega
  have f1 : (rT.emb y2 1).val = (y 0).val := by show 0 + 1 * (y 0).val = _; omega
  have f2 : rT.emb y2 2 = y 1 := Fin.ext (by show 0 + 1 * (y 1).val = _; omega)
  have f3 : rT.emb y2 3 = y 2 := Fin.ext (by show 0 + 1 * (y 2).val = _; omega)
  have f4 : rT.emb y2 4 = y 3 := Fin.ext (by show 0 + 1 * (y 3).val = _; omega)
  have ho := off26_at L
  have g0 : ((Rect.unit (s := S10000x7x7x4x16) (k0_off26 L) S2x7x7x1x16.size (k0_off26_inb L)).emb y1 0).val = 1250 * rg L + 1248 + (y 0).val := by
    show k0_off26 L 0 + 1 * (y 0).val = _; rw [ho]; show 1250 * rg L + 1248 + 1 * (y 0).val = _; omega
  have g1 : (Rect.unit (s := S10000x7x7x4x16) (k0_off26 L) S2x7x7x1x16.size (k0_off26_inb L)).emb y1 1 = y 1 := Fin.ext (by
    show k0_off26 L 1 + 1 * (y 1).val = _; rw [ho]; show 0 + 1 * (y 1).val = _; omega)
  have g2 : (Rect.unit (s := S10000x7x7x4x16) (k0_off26 L) S2x7x7x1x16.size (k0_off26_inb L)).emb y1 2 = y 2 := Fin.ext (by
    show k0_off26 L 2 + 1 * (y 2).val = _; rw [ho]; show 0 + 1 * (y 2).val = _; omega)
  have g4 : (Rect.unit (s := S10000x7x7x4x16) (k0_off26 L) S2x7x7x1x16.size (k0_off26_inb L)).emb y1 4 = y 3 := Fin.ext (by
    show k0_off26 L 4 + 1 * (y 3).val = _; rw [ho]; show 0 + 1 * (y 3).val = _; omega)
  unfold roisTo tileF
  rw [if_pos ⟨f0, by rw [f1]; exact hy0⟩, f1, f2, f3, f4, g0, g1, g2, g4]
  rw [show 1250 * rg L + 1248 + (y 0).val - 1250 * rg L = 1248 + (y 0).val by omega]

/-! ## What the tile brings in -/

/-- The feature map by channel group, and the rois by group. -/
abbrev V2C (F : FTy → Type) : Type := S4x64x64x16.Idx → F .f32
@[inherit_doc V2C] abbrev V5C : Type := S8x1250x16.Idx → BitVec 32

/-- Channel group `c` of the feature map; group `r` of the rois. -/
def slabM (v2 : V2C F) (c : ℕ) : FmC F := fun ix => v2 fun a => match a with
  | 0 => (⟨c % 4, Nat.mod_lt _ (by decide)⟩ : Fin 4) | 1 => ix 0 | 2 => ix 1 | 3 => ix 2
@[inherit_doc slabM] def slabR (v5 : V5C) (r : ℕ) : RoiC := fun ix => v5 fun a => match a with
  | 0 => (⟨r % 8, Nat.mod_lt _ (by decide)⟩ : Fin 8) | 1 => ix 0 | 2 => ix 1

theorem read_fmSrc (L : grid0.Coords) (v2 : V2C F) : (fmSrc L).view.read (Elt F) v2 = slabM v2 (cg L) := by
  funext y
  have e1 : (fmSrc L).view.emb y = (Rect.unit (s := S4x64x64x16) (k0_off1 L) S1x64x64x16.size (k0_off1_inb L)).emb
    (Shape.reshapeEquiv squeezes_S1x64x64x16_S64x64x16.numel_eq y) := rfl
  let y1 : S1x64x64x16.Idx := fun b => match b with | 0 => (0 : Fin 1) | 1 => y 0 | 2 => y 1 | 3 => y 2
  have e2 : Shape.reshapeEquiv squeezes_S1x64x64x16_S64x64x16.numel_eq y = y1 := Shape.reshapeEquiv_eq_of_rowMajor _ (by
    rw [Shape.rowMajor_val_four, Shape.rowMajor_val_three]
    show ((0 * 64 + (y 0).val) * 64 + (y 1).val) * 16 + (y 2).val = ((y 0).val * 64 + (y 1).val) * 16 + (y 2).val
    omega)
  show v2 ((fmSrc L).view.emb y) = _
  rw [e1, e2]
  refine congrArg v2 (funext fun a => Fin.ext ?_)
  have ho := off1_at L
  have hc := cg_lt L
  fin_cases a
  · show k0_off1 L 0 + 1 * 0 = cg L % 4; rw [ho]; show cg L + 1 * 0 = _; rw [Nat.mod_eq_of_lt hc]; omega
  · show k0_off1 L 1 + 1 * (y 0).val = (y 0).val; rw [ho]; show 0 + 1 * (y 0).val = _; omega
  · show k0_off1 L 2 + 1 * (y 1).val = (y 1).val; rw [ho]; show 0 + 1 * (y 1).val = _; omega
  · show k0_off1 L 3 + 1 * (y 2).val = (y 2).val; rw [ho]; show 0 + 1 * (y 2).val = _; omega

theorem read_roiSrc (L : grid0.Coords) (v5 : V5C) : (roiSrc L).view.read (Elt F) v5 = slabR v5 (rg L) := by
  funext y
  have e1 : (roiSrc L).view.emb y = (Rect.unit (s := S8x1250x16) (k0_off2 L) S1x1250x16.size (k0_off2_inb L)).emb
    (Shape.reshapeEquiv squeezes_S1x1250x16_S1250x16.numel_eq y) := rfl
  let y1 : S1x1250x16.Idx := fun b => match b with | 0 => (0 : Fin 1) | 1 => y 0 | 2 => y 1
  have e2 : Shape.reshapeEquiv squeezes_S1x1250x16_S1250x16.numel_eq y = y1 := Shape.reshapeEquiv_eq_of_rowMajor _ (by
    rw [Shape.rowMajor_val_three, Shape.rowMajor_val_two]
    show (0 * 1250 + (y 0).val) * 16 + (y 1).val = (y 0).val * 16 + (y 1).val
    omega)
  show v5 ((roiSrc L).view.emb y) = _
  rw [e1, e2]
  refine congrArg v5 (funext fun a => Fin.ext ?_)
  have ho := off2_at L
  have hc := rg_lt L
  fin_cases a
  · show k0_off2 L 0 + 1 * 0 = rg L % 8; rw [ho]; show rg L + 1 * 0 = _; rw [Nat.mod_eq_of_lt hc]; omega
  · show k0_off2 L 1 + 1 * (y 0).val = (y 0).val; rw [ho]; show 0 + 1 * (y 0).val = _; omega
  · show k0_off2 L 2 + 1 * (y 1).val = (y 1).val; rw [ho]; show 0 + 1 * (y 1).val = _; omega

/-- The results, of the feature map and the rois. -/
def resF (v2 : V2C F) (v5 : V5C) : ResC F := fun ix =>
  cellF (slabM v2 (ix 3).val) (rowAt (slabR v5 ((ix 0).val / 1250)) ((ix 0).val % 1250)) (ix 1) (ix 2) (ix 4)

/-- A tile's values are the results' on its block. -/
theorem tileF_eq (v2 : V2C F) (v5 : V5C) (r c : ℕ) (ix : S10000x7x7x4x16.Idx) (h : ix ∈ resRows r c 0 1250) :
    tileF (slabM v2 c) (slabR v5 r) r ix = resF v2 v5 ix := by
  rw [mem_resRows] at h
  unfold tileF resF
  rw [h.2.2, show (ix 0).val / 1250 = r by omega, show (ix 0).val % 1250 = (ix 0).val - 1250 * r by omega]

end Cert.Proof.KernelIdeal

end
-- ==== Proof.Ideal.Slots.lean ====
/-
  An output slot: filled with a batch's rois, sent, waited for.
-/
module

public import proofs.«01_k».proof.Proof.Ideal.Blocks
public import Idealize.ShloMosaic.Lib.Transfers

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The assertions, and the transfers' counters. -/
abbrev 𝕄 (F : FTy → Type) : Type _ := MT nD τ sig (HIx 1) (Elt F) ℕ UU ℕ
@[inherit_doc 𝕄] abbrev EC : UEmb Counters (𝕄 F) := countersEmb

/-! ## The program, regrouped at its conditionals -/

/-- A wait made only when `c`. -/
def acq (i : grid0.Coords) (s : DmaSem sig) (src : Memref sig .scVector .vmem S16x7x7x16 .f32) (hs : src.view.WordExact)
    (c : BitVec 1) (o : Fin 5 → ℕ) (ho : c = 1#1 → ∀ a, o a + S16x7x7x1x16.size a ≤ S10000x7x7x4x16.size a) : TProg F i PUnit :=
  if h : c = 1#1 then waitBatch i s src hs o (ho h) else pure ⟨⟩

/-- The sixteen rois of batch `2k`, and of batch `2k + 1`. -/
def fills0 (i : grid0.Coords) (k : Fin k0_t1_loop.trips) : TProg F i (BitVec 32) :=
  Scf.Loop.for k0_t2_loop k0_t2_ok 0#32 fun j _ => fillProg i (k0_off4 k j) (k0_off4_inb k j) (k0_off9 j) (k0_off9_inb j)
@[inherit_doc fills0] def fills1 (i : grid0.Coords) (k : Fin k0_t1_loop.trips) : TProg F i (BitVec 32) :=
  Scf.Loop.for k0_t5_loop k0_t5_ok 0#32 fun j _ => fillProg i (k0_off12 k j) (k0_off12_inb k j) (k0_off17 j) (k0_off17_inb j)
/-- The last two rois. -/
def fillsT (i : grid0.Coords) : TProg F i (BitVec 32) :=
  Scf.Loop.for k0_t8_loop k0_t8_ok 0#32 fun j _ => fillProg i (k0_off20 j) (k0_off20_inb j) (k0_off25 j) (k0_off25_inb j)

theorem pairProg_eq (i : grid0.Coords) (k : Fin k0_t1_loop.trips) :
    pairProg (F := F) i k = (do
      acq i sem0 slot0 ((View.wordExact_bits rfl).reshape _ _) (k0_cond1 k) (k0_off3 i k) (k0_off3_inb i k)
      let _ ← fills0 i k
      sendBatch i sem0 slot0 ((View.wordExact_bits rfl).reshape _ _) (k0_off10 i k) (k0_off10_inb i k)
      acq i sem1 slot1 ((View.wordExact_bits rfl).reshape _ _) (k0_cond2 k) (k0_off11 i k) (k0_off11_inb i k)
      let _ ← fills1 i k
      sendBatch i sem1 slot1 ((View.wordExact_bits rfl).reshape _ _) (k0_off18 i k) (k0_off18_inb i k)
      pure 0#32) := by
  unfold pairProg pairFill acq fills0 fills1
  by_cases h1 : k0_cond1 k = 1#1 <;> by_cases h2 : k0_cond2 k = 1#1 <;>
    simp only [h1, h2, dif_pos, dif_neg, bind_assoc, pure_bind, not_false_eq_true, reduceDIte]

section
variable (d : Fin nD) (L : grid0.Coords)

/-- A program run before another. -/
theorem wp_then {α β : Type} {p : TProg F L α} {k : α → TProg F L β} {P : sProp (𝕄 F)} {R : α → sProp (𝕄 F)} {Q : β → sProp (𝕄 F)}
    (h : P ⊢ wp frame (wpE (defs₀ (F := F)) 𝒱₀ (me d L) none) Set.univ p R) :
    P ⊢ iprop((∀ a, R a -∗ wp frame (wpE (defs₀ (F := F)) 𝒱₀ (me d L) none) Set.univ (k a) Q)
      -∗ wp frame (wpE (defs₀ (F := F)) 𝒱₀ (me d L) none) Set.univ (p >>= k) Q) := by
  rw [wp_bind]
  iintro HP HK
  iapply (wp_wand_r frame (wpE (defs₀ (F := F)) 𝒱₀ (me d L) none) Set.univ)
  isplitl [HP]
  · iapply h; iexact HP
  · iexact HK

/-- The rois, the feature map and a slot. -/
abbrev fillRes (fm : FmC F) (rois : RoiC) (s : ℕ) (g : OutC F) : sProp (𝕄 F) :=
  iprop((roiB.view.loc (me d L) ↦{fullShare} rois) ∗ cellRes d L fullShare s fm g)

/-- A loop over rois fills a slot. -/
theorem wp_fills (fm : FmC F) (rois : RoiC) (l : Scf.Loop 32) (hok : l.OK) (n : ℕ) (hn : l.trips = n) (base s : ℕ) (hb : base + n ≤ 1250)
    (g : OutC F) (ro : Fin l.trips → Fin 2 → ℕ) (hro : ∀ j, ∀ a, ro j a + S1x16.size a ≤ S1250x16.size a) (hre : ∀ j, ro j = ![base + j.val, 0])
    (o : Fin l.trips → Fin k0_t3_loop.trips → Fin k0_t4_loop.trips → Fin 5 → ℕ)
    (ho : ∀ j p q, ∀ a, o j p q a + S1x1x1x1x16.size a ≤ S2x16x7x7x16.size a) (hoe : ∀ j p q, o j p q = ![s, j.val, p.val, q.val, 0]) :
    fillRes d L fm rois s g
      ⊢ wp frame (wpE (defs₀ (F := F)) 𝒱₀ (me d L) none) Set.univ
          (Scf.Loop.for l hok 0#32 fun j _ => fillProg (F := F) L (ro j) (hro j) (o j) (ho j))
          fun _ => fillRes d L fm rois s (roisTo fm (fun j => rowAt rois (base + j)) s n g) := by
  subst hn
  iintro H
  iapply (Scf.wp_for frame (wpE (defs₀ (F := F)) 𝒱₀ (me d L) none) Set.univ _ _ _ hok 0#32 _
    (fun j _ => fillRes d L fm rois s (roisTo fm (fun j => rowAt rois (base + j)) s j g)) (fun j acc => by
      have hj : base + j.val < 1250 := by have : j.val < l.trips := j.isLt; omega
      refine (wp_fill d L fullShare fullShare fm rois ⟨base + j.val, hj⟩ s j.val _ (ro j) (hro j) (hre j) (o j) (ho j) (hoe j)).trans ?_
      refine wp_mono _ _ _ fun _ => ?_
      rw [← roisTo_step, rowAt]
      rw [show (⟨(base + j.val) % 1250, Nat.mod_lt _ (by decide)⟩ : Fin 1250) = ⟨base + j.val, hj⟩ from Fin.ext (Nat.mod_eq_of_lt hj)]))
  isplitl [H]
  · rw [roisTo_zero]; iexact H
  iintro %acc H
  iexact H

/-! ## What a slot is, between batches -/

/-- What a batch's copy credits, and what the last one does. -/
abbrev NB : ℕ := (batchB (fun _ => 0) (by decide)).view.dmaCredit

theorem NB_pos : 0 < NB := View.dmaCredit_pos _ (by decide)

/-- Rows `[a, b)` of roi group `rg L`, channel group `cg L`, of the result, at `f`. -/
abbrev rowsAt (a b : ℕ) (f : ResC F) : sProp (𝕄 F) := resB.view.loc (me d L) ↦[resRows (rg L) (cg L) a b]{fullShare} f
/-- The cell of a DMA semaphore at zero. -/
abbrev idle (s : DmaSem sig) : sProp (𝕄 F) := semVal (me d L, .dma s) 0
/-- What the tile owes, whatever waits it has made. -/
abbrev owing (O : CellTallies nD τ sig (HIx 1)) : sProp (𝕄 F) := iprop(∃ W', owes (me d L) O W')
/-- Slot `s`, at some contents. -/
abbrev slotAny (s : ℕ) : sProp (𝕄 F) := iprop(∃ g, outB.view.loc (me d L) ↦[slotSet s]{fullShare} g)
/-- What a slot's copy delivers: rows `[a, b)` of the result, and the slot back. -/
abbrev delivered (fm : FmC F) (rois : RoiC) (s a b : ℕ) : sProp (𝕄 F) :=
  iprop(rowsAt d L a b (tileF fm rois (rg L)) ∗ slotAny d L s)
/-- A slot: its copy on the way when `b`, else at rest. -/
def slotSt (fm : FmC F) (rois : RoiC) (sm : DmaSem sig) (s lo hi : ℕ) (b : Prop) [Decidable b] : sProp (𝕄 F) :=
  if b then Transfers.Flight EC (me d L) (.dma sm) (default : HIx 1) NB (delivered d L fm rois s lo hi)
  else iprop(slotAny d L s ∗ idle d L sm)

theorem rows_none (a : ℕ) (f : ResC F) : rowsAt d L a a f = (BIBase.emp : sProp (𝕄 F)) := by
  unfold rowsAt
  rw [resRows_empty]
  exact pointsTo_empty ..

theorem rows_split {a b e : ℕ} (h1 : a ≤ b) (h2 : b ≤ e) (f : ResC F) :
    rowsAt d L a e f ⊣⊢ iprop(rowsAt d L a b f ∗ rowsAt d L b e f) := by
  unfold rowsAt
  rw [resRows_union (rg L) (cg L) h1 h2]
  exact pointsTo_union (resRows_disjoint ..)

/-- A wait made, or not needed: the slot is at rest, and its last rows are written. -/
theorem wp_acq (fm : FmC F) (rois : RoiC) (O : CellTallies nD τ sig (HIx 1)) (sm : DmaSem sig)
    (src : Memref sig .scVector .vmem S16x7x7x16 .f32) (hs : src.view.WordExact)
    (c : BitVec 1) (o : Fin 5 → ℕ) (ho : c = 1#1 → ∀ a, o a + S16x7x7x1x16.size a ≤ S10000x7x7x4x16.size a)
    (s lo hi : ℕ) (b : Prop) [Decidable b] (hc : c = 1#1 ↔ b) (hlo : ¬ b → lo = hi) :
    iprop(slotSt d L fm rois sm s lo hi b ∗ Transfers.MayWaits (me d L) (default : HIx 1) O ∗ owing d L O)
      ⊢ wp frame (wpE (defs₀ (F := F)) 𝒱₀ (me d L) none) Set.univ (acq (F := F) L sm src hs c o ho)
          fun _ => iprop(delivered d L fm rois s lo hi ∗ idle d L sm ∗ owing d L O) := by
  unfold acq slotSt
  by_cases h : b
  · rw [if_pos h, dif_pos (hc.mpr h)]
    unfold waitBatch
    iintro ⟨HF, #Hmw, ⟨%W', HO⟩⟩
    ihave Hm := (Transfers.MayWaits.elim (.dma sm)) $$ Hmw
    iapply (Transfers.wp_waitLocalO EC 𝒱₀ (me d L) none (srcw := src) (dstw := batchB o (ho (hc.mpr h))) (default : HIx 1) (N := NB) rfl) $$ [HF HO Hm]
    · isplitl [HF]; · iexact HF
      isplitl [HO]; · iexact HO
      iexact Hm
    iintro ⟨HD, Hv, HO⟩
    iapply (wp_done d L)
    isplitl [HD]; · iexact HD
    isplitl [Hv]; · iexact Hv
    iexists _; iexact HO
  · rw [if_neg h, dif_neg (fun e => h (hc.mp e)), hlo h]
    iintro ⟨⟨Hs, Hv⟩, -, HO⟩
    iapply (wp_done d L)
    unfold delivered
    rw [rows_none]
    isplitl [Hs]
    · isplitr
      · iempintro
      · iexact Hs
    isplitl [Hv]; · iexact Hv
    iexact HO

/-- A batch sent: its sixteen rows are on the way at their values. -/
theorem wp_send (fm : FmC F) (rois : RoiC) (sm : DmaSem sig) (so : Fin 5 → ℕ)
    (hso : ∀ a, so a + S1x16x7x7x16.size a ≤ S2x16x7x7x16.size a) (s a b : ℕ) (hse : so = ![s, 0, 0, 0, 0])
    (o : Fin 5 → ℕ) (ho : ∀ a, o a + S16x7x7x1x16.size a ≤ S10000x7x7x4x16.size a) (hb : b = a + 16)
    (hoe : o = ![1250 * rg L + a, 0, 0, cg L, 0]) (hs : (slotB so hso).view.WordExact) (g : OutC F) (fd : ResC F) :
    iprop((outB.view.loc (me d L) ↦[slotSet s]{fullShare} roisTo fm (fun j => rowAt rois (a + j)) s 16 g) ∗ rowsAt d L a b fd ∗ idle d L sm)
      ⊢ wp frame (wpE (defs₀ (F := F)) 𝒱₀ (me d L) none) Set.univ (sendBatch (F := F) L sm (slotB so hso) hs o ho)
          fun _ => slotSt d L fm rois sm s a b True := by
  subst hb
  unfold sendBatch slotSt
  rw [if_pos trivial]
  iintro ⟨Hs, Hr, Hv⟩
  iapply (Transfers.wp_dmaLocal EC 𝒱₀ (me d L) none (src := slotB so hso) (dst := batchB o ho) (sm := .dma sm) (q := fullShare)
    (fs := roisTo fm (fun j => rowAt rois (a + j)) s 16 g) (Sd := resRows (rg L) (cg L) a (a + 16)) (fd := fd)
    (default : HIx 1) NB rfl NB_pos (batchB_set o ho (rg L) (cg L) a hoe).subset) $$ [Hs Hr Hv]
  · isplitl [Hs]
    · rw [slotB_set so hso s hse]; iexact Hs
    isplitl [Hr]; · iexact Hr
    iexact Hv
  iintro HF
  iapply (wp_done d L)
  iapply (Transfers.Flight_mono EC (me d L) ?_) $$ HF
  iintro ⟨Hd, Hs⟩
  isplitl [Hd]
  · iapply (Entails.of_eq (pointsTo_congr fun ix hix => batch_copied so hso s hse o ho (rg L) (cg L) a hoe fm rois g fd ix hix)) $$ Hd
  · iexists _
    rw [slotB_set so hso s hse]; iexact Hs

end

end Cert.Proof.KernelIdeal

end
-- ==== Proof.Ideal.Tile.lean ====
/-
  A tile's body: what it leaves in its rows of the results.
-/
module

public import proofs.«01_k».proof.Proof.Ideal.Slots

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable (d : Fin nD) (L : grid0.Coords)

/-! ## The three roi loops -/

theorem wp_fills0 (fm : FmC F) (rois : RoiC) (k : Fin k0_t1_loop.trips) (g : OutC F) :
    fillRes d L fm rois 0 g ⊢ wp frame (wpE (defs₀ (F := F)) 𝒱₀ (me d L) none) Set.univ (fills0 (F := F) L k)
      fun _ => fillRes d L fm rois 0 (roisTo fm (fun j => rowAt rois (32 * k.val + j)) 0 16 g) := by
  unfold fills0
  exact wp_fills d L fm rois k0_t2_loop k0_t2_ok 16 t2_trips (32 * k.val) 0 (by have h := k.isLt; have e := t1_trips; omega) g
    _ _ (fun j => k0_off4_eq k j) _ _ (fun j p q => k0_off9_eq j p q)

theorem wp_fills1 (fm : FmC F) (rois : RoiC) (k : Fin k0_t1_loop.trips) (g : OutC F) :
    fillRes d L fm rois 1 g ⊢ wp frame (wpE (defs₀ (F := F)) 𝒱₀ (me d L) none) Set.univ (fills1 (F := F) L k)
      fun _ => fillRes d L fm rois 1 (roisTo fm (fun j => rowAt rois (32 * k.val + 16 + j)) 1 16 g) := by
  unfold fills1
  exact wp_fills d L fm rois k0_t5_loop k0_t5_ok 16 t5_trips (32 * k.val + 16) 1 (by have h := k.isLt; have e := t1_trips; omega) g
    _ _ (fun j => by rw [k0_off12_eq k j, show 32 * k.val + j.val + 16 = 32 * k.val + 16 + j.val by omega]) _ _ (fun j p q => k0_off17_eq j p q)

theorem wp_fillsT (fm : FmC F) (rois : RoiC) (g : OutC F) :
    fillRes d L fm rois 0 g ⊢ wp frame (wpE (defs₀ (F := F)) 𝒱₀ (me d L) none) Set.univ (fillsT (F := F) L)
      fun _ => fillRes d L fm rois 0 (roisTo fm (fun j => rowAt rois (1248 + j)) 0 2 g) := by
  unfold fillsT
  exact wp_fills d L fm rois k0_t8_loop k0_t8_ok 2 t8_trips 1248 0 (by omega) g
    _ _ (fun j => by rw [k0_off20_eq j, show j.val + 1248 = 1248 + j.val by omega]) _ _ (fun j p q => k0_off25_eq j p q)

/-! ## The pairs of batches -/

/-- Before trip `k`: rows below `32 k - 32` are written, the two slots hold what trip `k - 1` sent, rows from `32 k` on are as they were. -/
def pairInv (fm : FmC F) (rois : RoiC) (fd : ResC F) (O : CellTallies nD τ sig (HIx 1)) (k : ℕ) : sProp (𝕄 F) :=
  iprop((roiB.view.loc (me d L) ↦{fullShare} rois) ∗ (fmB.view.loc (me d L) ↦{fullShare} fm)
    ∗ slotSt d L fm rois sem0 0 (32 * k - 32) (32 * k - 16) (0 < k) ∗ slotSt d L fm rois sem1 1 (32 * k - 16) (32 * k) (0 < k)
    ∗ rowsAt d L 0 (32 * k - 32) (tileF fm rois (rg L)) ∗ rowsAt d L (32 * k) 1250 fd ∗ owing d L O)

theorem slotSt_of (fm : FmC F) (rois : RoiC) (sm : DmaSem sig) (s : ℕ) {lo hi lo' hi' : ℕ} (b : Prop) [Decidable b] (h : b)
    (h1 : lo = lo') (h2 : hi = hi') : slotSt d L fm rois sm s lo hi True = slotSt d L fm rois sm s lo' hi' b := by
  subst h1 h2
  unfold slotSt
  rw [if_pos h, if_pos trivial]

/-- A trip: both slots waited for, filled and sent. -/
theorem wp_pair (fm : FmC F) (rois : RoiC) (fd : ResC F) (O : CellTallies nD τ sig (HIx 1)) (k : Fin k0_t1_loop.trips) :
    iprop(Transfers.MayWaits (me d L) (default : HIx 1) O ∗ pairInv d L fm rois fd O k.val)
      ⊢ wp frame (wpE (defs₀ (F := F)) 𝒱₀ (me d L) none) Set.univ (pairProg (F := F) L k)
          fun _ => pairInv d L fm rois fd O (k.val + 1) := by
  have hk : k.val < 39 := lt_of_lt_of_eq k.isLt t1_trips
  rw [pairProg_eq]
  unfold pairInv
  iintro ⟨#Hmw, Hroi, Hfm, H0, H1, Hdone, Htodo, HO⟩
  iapply (wp_then d L (wp_acq d L fm rois O sem0 slot0 ((View.wordExact_bits rfl).reshape _ _) (k0_cond1 k) (k0_off3 L k) (k0_off3_inb L k)
    0 (32 * k.val - 32) (32 * k.val - 16) (0 < k.val) (cond1_all k) (by omega))) $$ [H0 HO]
  · isplitl [H0]; · iexact H0
    isplitr; · iexact Hmw
    iexact HO
  iintro %_ ⟨⟨Hr, ⟨%g0, Hg0⟩⟩, Hv0, HO⟩
  ihave Hdone := (rows_split d L (show 0 ≤ 32 * k.val - 32 by omega) (show 32 * k.val - 32 ≤ 32 * k.val - 16 by omega) (tileF fm rois (rg L))).2 $$ [Hdone Hr]
  · isplitl [Hdone]; · iexact Hdone
    iexact Hr
  iapply (wp_then d L (wp_fills0 d L fm rois k g0)) $$ [Hroi Hfm Hg0]
  · isplitl [Hroi]; · iexact Hroi
    isplitl [Hfm]; · iexact Hfm
    iexact Hg0
  iintro %_ ⟨Hroi, Hfm, Hg0⟩
  ihave Htodo := (rows_split d L (show 32 * k.val ≤ 32 * k.val + 16 by omega) (show 32 * k.val + 16 ≤ 1250 by omega) fd).1 $$ Htodo
  icases Htodo with ⟨Hr, Htodo⟩
  iapply (wp_then d L (wp_send d L fm rois sem0 ![0, 0, 0, 0, 0] inb_S2x16x7x7x16_S1x16x7x7x16_0_0_0_0_0 0 (32 * k.val) (32 * k.val + 16) rfl
    (k0_off10 L k) (k0_off10_inb L k) rfl (off10_at L k) ((View.wordExact_bits rfl).reshape _ _) g0 fd)) $$ [Hg0 Hr Hv0]
  · isplitl [Hg0]; · iexact Hg0
    isplitl [Hr]; · iexact Hr
    iexact Hv0
  iintro %_ H0
  iapply (wp_then d L (wp_acq d L fm rois O sem1 slot1 ((View.wordExact_bits rfl).reshape _ _) (k0_cond2 k) (k0_off11 L k) (k0_off11_inb L k)
    1 (32 * k.val - 16) (32 * k.val) (0 < k.val) (cond2_all k) (by omega))) $$ [H1 HO]
  · isplitl [H1]; · iexact H1
    isplitr; · iexact Hmw
    iexact HO
  iintro %_ ⟨⟨Hr, ⟨%g1, Hg1⟩⟩, Hv1, HO⟩
  ihave Hdone := (rows_split d L (show 0 ≤ 32 * k.val - 16 by omega) (show 32 * k.val - 16 ≤ 32 * k.val by omega) (tileF fm rois (rg L))).2 $$ [Hdone Hr]
  · isplitl [Hdone]; · iexact Hdone
    iexact Hr
  iapply (wp_then d L (wp_fills1 d L fm rois k g1)) $$ [Hroi Hfm Hg1]
  · isplitl [Hroi]; · iexact Hroi
    isplitl [Hfm]; · iexact Hfm
    iexact Hg1
  iintro %_ ⟨Hroi, Hfm, Hg1⟩
  ihave Htodo := (rows_split d L (show 32 * k.val + 16 ≤ 32 * k.val + 16 + 16 by omega) (show 32 * k.val + 16 + 16 ≤ 1250 by omega) fd).1 $$ Htodo
  icases Htodo with ⟨Hr, Htodo⟩
  iapply (wp_then d L (wp_send d L fm rois sem1 ![1, 0, 0, 0, 0] inb_S2x16x7x7x16_S1x16x7x7x16_1_0_0_0_0 1 (32 * k.val + 16) (32 * k.val + 16 + 16) rfl
    (k0_off18 L k) (k0_off18_inb L k) rfl (off18_at L k) ((View.wordExact_bits rfl).reshape _ _) g1 fd)) $$ [Hg1 Hr Hv1]
  · isplitl [Hg1]; · iexact Hg1
    isplitl [Hr]; · iexact Hr
    iexact Hv1
  iintro %_ H1
  iapply (wp_done d L)
  isplitl [Hroi]; · iexact Hroi
  isplitl [Hfm]; · iexact Hfm
  isplitl [H0]
  · iapply (Entails.of_eq (slotSt_of d L fm rois sem0 0 (0 < k.val + 1) (by omega) (show 32 * k.val = 32 * (k.val + 1) - 32 by omega)
      (show 32 * k.val + 16 = 32 * (k.val + 1) - 16 by omega))) $$ H0
  isplitl [H1]
  · iapply (Entails.of_eq (slotSt_of d L fm rois sem1 1 (0 < k.val + 1) (by omega) (show 32 * k.val + 16 = 32 * (k.val + 1) - 16 by omega)
      (show 32 * k.val + 16 + 16 = 32 * (k.val + 1) by omega))) $$ H1
  isplitl [Hdone]
  · iapply (Entails.of_eq (congrArg (fun n => rowsAt d L 0 n (tileF fm rois (rg L))) (show 32 * k.val = 32 * (k.val + 1) - 32 by omega))) $$ Hdone
  isplitl [Htodo]
  · iapply (Entails.of_eq (congrArg (fun n => rowsAt d L n 1250 fd) (show 32 * k.val + 16 + 16 = 32 * (k.val + 1) by omega))) $$ Htodo
  iexact HO

/-- All thirty-nine trips. -/
theorem wp_pairs (fm : FmC F) (rois : RoiC) (fd : ResC F) (O : CellTallies nD τ sig (HIx 1)) :
    iprop(Transfers.MayWaits (me d L) (default : HIx 1) O ∗ pairInv d L fm rois fd O 0)
      ⊢ wp frame (wpE (defs₀ (F := F)) 𝒱₀ (me d L) none) Set.univ
          (Scf.Loop.for k0_t1_loop k0_t1_ok 0#32 fun k _ => pairProg (F := F) L k)
          fun _ => pairInv d L fm rois fd O 39 := by
  iintro ⟨#Hmw, H⟩
  iapply (Scf.wp_for frame (wpE (defs₀ (F := F)) 𝒱₀ (me d L) none) Set.univ _ _ _ k0_t1_ok 0#32 _
    (fun k _ => iprop(Transfers.MayWaits (me d L) (default : HIx 1) O ∗ pairInv d L fm rois fd O k)) (fun k acc => by
      iintro ⟨#Hmw, H⟩
      iapply (wp_wand_r frame (wpE (defs₀ (F := F)) 𝒱₀ (me d L) none) Set.univ)
      isplitl [H]
      · iapply (wp_pair d L fm rois fd O k)
        isplitr; · iexact Hmw
        iexact H
      iintro %_ H
      isplitr; · iexact Hmw
      iexact H))
  isplitl [H]
  · isplitr; · iexact Hmw
    iexact H
  iintro %acc ⟨-, H⟩
  have e : Scf.trips k0_t1_loop.lb k0_t1_loop.ub k0_t1_loop.st = 39 := t1_trips
  rw [← e]
  iexact H

end Cert.Proof.KernelIdeal

end
-- ==== Proof.Ideal.TileBody.lean ====
/-
  A tile's whole task: the feature map and the rois brought in, the batches, the last two rois.
-/
module

public import proofs.«01_k».proof.Proof.Ideal.Tile

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable (d : Fin nD) (L : grid0.Coords)

abbrev semFm : DmaSem sig := (cc0_scoped0 : DmaSems sig S_).sem
abbrev semRoi : DmaSem sig := (cc0_scoped1 : DmaSems sig S_).sem

/-- A slot that waits on a copy is a slot with something on the way. -/
theorem wp_waitB (fm : FmC F) (rois : RoiC) (O : CellTallies nD τ sig (HIx 1)) (sm : DmaSem sig)
    (src : Memref sig .scVector .vmem S16x7x7x16 .f32) (hs : src.view.WordExact)
    (o : Fin 5 → ℕ) (ho : ∀ a, o a + S16x7x7x1x16.size a ≤ S10000x7x7x4x16.size a) (s lo hi : ℕ) (b : Prop) [Decidable b] (hb : b) :
    iprop(slotSt d L fm rois sm s lo hi b ∗ Transfers.MayWaits (me d L) (default : HIx 1) O ∗ owing d L O)
      ⊢ wp frame (wpE (defs₀ (F := F)) 𝒱₀ (me d L) none) Set.univ (waitBatch (F := F) L sm src hs o ho)
          fun _ => iprop(delivered d L fm rois s lo hi ∗ idle d L sm ∗ owing d L O) :=
  wp_acq d L fm rois O sm src hs 1#1 o (fun _ => ho) s lo hi b (iff_of_true rfl hb) (fun h => absurd hb h)

/-- A wait for a whole copy. -/
theorem wp_waitAny {sp sp' : Space} {s s' : Shape} {e e' : EltTy} (O : CellTallies nD τ sig (HIx 1)) (sm : DmaSem sig)
    (src : Memref sig .scVector sp' s' e') (dst : Memref sig .scVector sp s e) (hs : src.view.WordExact) (hd : dst.view.WordExact)
    (D : sProp (𝕄 F)) :
    iprop(Transfers.Flight EC (me d L) (.dma sm) (default : HIx 1) dst.view.dmaCredit D ∗ Transfers.MayWaits (me d L) (default : HIx 1) O ∗ owing d L O)
      ⊢ wp frame (wpE (defs₀ (F := F)) 𝒱₀ (me d L) none) Set.univ (Prog.lift (.waitDma2 sm src dst hs hd) : TProg F L PUnit)
          fun _ => iprop(D ∗ idle d L sm ∗ owing d L O) := by
  iintro ⟨HF, #Hmw, ⟨%W', HO⟩⟩
  ihave Hm := (Transfers.MayWaits.elim (.dma sm)) $$ Hmw
  iapply (Transfers.wp_waitLocalO EC 𝒱₀ (me d L) none (srcw := src) (dstw := dst) (default : HIx 1) rfl) $$ [HF HO Hm]
  · isplitl [HF]; · iexact HF
    isplitl [HO]; · iexact HO
    iexact Hm
  iintro ⟨HD, Hv, HO⟩
  iapply (wp_done d L)
  isplitl [HD]; · iexact HD
  isplitl [Hv]; · iexact Hv
  iexists _; iexact HO

/-- What the feature map's copy brings. -/
abbrev fmCome (q : PosShare TreeShare) (v2 : V2C F) : sProp (𝕄 F) :=
  iprop((fmB.view.loc (me d L) ↦{fullShare} slabM v2 (cg L)) ∗ ((fmSrc L).view.loc (me d L) ↦[(fmSrc L).view.set]{q} v2))
@[inherit_doc fmCome] abbrev roiCome (q : PosShare TreeShare) (v5 : V5C) : sProp (𝕄 F) :=
  iprop((roiB.view.loc (me d L) ↦{fullShare} slabR v5 (rg L)) ∗ ((roiSrc L).view.loc (me d L) ↦[(roiSrc L).view.set]{q} v5))

/-- The feature map sent for. -/
theorem wp_fmSend (q : PosShare TreeShare) (v2 : V2C F) (f0 : FmC F) :
    iprop(((fmSrc L).view.loc (me d L) ↦[(fmSrc L).view.set]{q} v2) ∗ (fmB.view.loc (me d L) ↦{fullShare} f0) ∗ idle d L semFm)
      ⊢ wp frame (wpE (defs₀ (F := F)) 𝒱₀ (me d L) none) Set.univ
          (Prog.lift (.enqueueDma (fmSrc L) (.here fmB) (.dma semFm) ((View.wordExact_bits rfl).reshape _ _) (Memref.isWhole_whole _).wordExact ⟨Or.inl rfl, trivial⟩) : TProg F L PUnit)
          fun _ => Transfers.Flight EC (me d L) (.dma semFm) (default : HIx 1) fmB.view.dmaCredit (fmCome d L q v2) := by
  iintro ⟨Hs, Hd, Hv⟩
  iapply (Transfers.wp_dmaLocal EC 𝒱₀ (me d L) none (src := fmSrc L) (dst := fmB) (sm := .dma semFm) (q := q)
    (fs := v2) (Sd := Finset.univ) (fd := f0) (default : HIx 1) fmB.view.dmaCredit rfl (View.dmaCredit_pos _ (by decide)) (Finset.subset_univ _)) $$ [Hs Hd Hv]
  · isplitl [Hs]; · iexact Hs
    isplitl [Hd]; · iexact Hd
    iexact Hv
  iintro HF
  iapply (wp_done d L)
  iapply (Transfers.Flight_mono EC (me d L) ?_) $$ HF
  iintro ⟨Hd, Hs⟩
  isplitl [Hd]
  · iapply (Entails.of_eq (congrArg (fun f => (fmB.view.loc (me d L) ↦{fullShare} f : sProp (𝕄 F)))
      ((View.write_whole_univ cc0_scratch0 f0 ((fmSrc L).view.read (Elt F) v2)).trans (read_fmSrc L v2)))) $$ Hd
  · iexact Hs

/-- The rois sent for. -/
theorem wp_roiSend (q : PosShare TreeShare) (v5 : V5C) (f0 : RoiC) :
    iprop(((roiSrc L).view.loc (me d L) ↦[(roiSrc L).view.set]{q} v5) ∗ (roiB.view.loc (me d L) ↦{fullShare} f0) ∗ idle d L semRoi)
      ⊢ wp frame (wpE (defs₀ (F := F)) 𝒱₀ (me d L) none) Set.univ
          (Prog.lift (.enqueueDma (roiSrc L) (.here roiB) (.dma semRoi) ((View.wordExact_bits rfl).reshape _ _) (Memref.isWhole_whole _).wordExact ⟨Or.inl rfl, trivial⟩) : TProg F L PUnit)
          fun _ => Transfers.Flight EC (me d L) (.dma semRoi) (default : HIx 1) roiB.view.dmaCredit (roiCome (F := F) d L q v5) := by
  iintro ⟨Hs, Hd, Hv⟩
  iapply (Transfers.wp_dmaLocal EC 𝒱₀ (me d L) none (src := roiSrc L) (dst := roiB) (sm := .dma semRoi) (q := q)
    (fs := v5) (Sd := Finset.univ) (fd := f0) (default : HIx 1) roiB.view.dmaCredit rfl (View.dmaCredit_pos _ (by decide)) (Finset.subset_univ _)) $$ [Hs Hd Hv]
  · isplitl [Hs]; · iexact Hs
    isplitl [Hd]; · iexact Hd
    iexact Hv
  iintro HF
  iapply (wp_done d L)
  iapply (Transfers.Flight_mono EC (me d L) ?_) $$ HF
  iintro ⟨Hd, Hs⟩
  isplitl [Hd]
  · iapply (Entails.of_eq (congrArg (fun f => (roiB.view.loc (me d L) ↦{fullShare} f : sProp (𝕄 F)))
      ((View.write_whole_univ (Val := Elt F) cc0_scratch1 f0 ((roiSrc L).view.read (Elt F) v5)).trans (read_roiSrc L v5)))) $$ Hd
  · iexact Hs

/-- What the last two rois' copy delivers: their rows, and the part of slot 0 it read. -/
abbrev tailCome (fm : FmC F) (rois : RoiC) (g : OutC F) : sProp (𝕄 F) :=
  iprop(rowsAt d L 1248 1250 (tileF fm rois (rg L)) ∗ (outB.view.loc (me d L) ↦[slotTSet]{fullShare} g))

theorem wp_tailSend (fm : FmC F) (rois : RoiC) (g : OutC F) (fd : ResC F) :
    iprop((outB.view.loc (me d L) ↦[slotTSet]{fullShare} roisTo fm (fun j => rowAt rois (1248 + j)) 0 2 g) ∗ rowsAt d L 1248 1250 fd ∗ idle d L sem0)
      ⊢ wp frame (wpE (defs₀ (F := F)) 𝒱₀ (me d L) none) Set.univ
          (Prog.lift (.enqueueDma slotT (.here (tailB L)) (.dma sem0) ((View.wordExact_bits rfl).reshape _ _) ((View.wordExact_bits rfl).reshape _ _) ⟨Or.inl rfl, trivial⟩) : TProg F L PUnit)
          fun _ => Transfers.Flight EC (me d L) (.dma sem0) (default : HIx 1) (tailB L).view.dmaCredit
            (tailCome d L fm rois (roisTo fm (fun j => rowAt rois (1248 + j)) 0 2 g)) := by
  iintro ⟨Hs, Hr, Hv⟩
  iapply (Transfers.wp_dmaLocal EC 𝒱₀ (me d L) none (src := slotT) (dst := tailB L) (sm := .dma sem0) (q := fullShare)
    (fs := roisTo fm (fun j => rowAt rois (1248 + j)) 0 2 g) (Sd := resRows (rg L) (cg L) 1248 1250) (fd := fd)
    (default : HIx 1) (tailB L).view.dmaCredit rfl (View.dmaCredit_pos _ (by decide)) (tailB_set L).subset) $$ [Hs Hr Hv]
  · isplitl [Hs]
    · rw [slotT_set]; iexact Hs
    isplitl [Hr]; · iexact Hr
    iexact Hv
  iintro HF
  iapply (wp_done d L)
  iapply (Transfers.Flight_mono EC (me d L) ?_) $$ HF
  iintro ⟨Hd, Hs⟩
  isplitl [Hd]
  · iapply (Entails.of_eq (pointsTo_congr fun ix hix => tail_copied L fm rois g fd ix hix)) $$ Hd
  · rw [slotT_set]; iexact Hs

/-- The waits for the inputs, and the thirty-nine pairs. -/
theorem wp_main (q2 q5 : PosShare TreeShare) (v2 : V2C F) (v5 : V5C) (fd : ResC F) (f1 : RoiC) (g : OutC F) (O : CellTallies nD τ sig (HIx 1)) :
    iprop(Transfers.MayWaits (me d L) (default : HIx 1) O
        ∗ Transfers.Flight EC (me d L) (.dma semFm) (default : HIx 1) fmB.view.dmaCredit (fmCome d L q2 v2)
        ∗ ((roiSrc L).view.loc (me d L) ↦[(roiSrc L).view.set]{q5} v5) ∗ (roiB.view.loc (me d L) ↦{fullShare} f1)
        ∗ (outB.view.loc (me d L) ↦{fullShare} g) ∗ rowsAt d L 0 1250 fd ∗ idle d L semRoi ∗ idle d L sem0 ∗ idle d L sem1 ∗ owing d L O)
      ⊢ wp frame (wpE (defs₀ (F := F)) 𝒱₀ (me d L) none) Set.univ (mainProg (F := F) L)
          fun _ => iprop(pairInv d L (slabM v2 (cg L)) (slabR v5 (rg L)) fd O 39 ∗ idle d L semFm ∗ idle d L semRoi) := by
  iintro ⟨#Hmw, HF, Hsrc, Hroi, Hout, Hrows, Hv, Hv0, Hv1, HO⟩
  unfold mainProg
  iapply (wp_then d L (wp_waitAny d L O semFm (fmSrc L) fmB _ _ (fmCome d L q2 v2))) $$ [HF HO]
  · isplitl [HF]; · iexact HF
    isplitr; · iexact Hmw
    iexact HO
  iintro %_ ⟨⟨Hfm, -⟩, Hvf, HO⟩
  iapply (wp_then d L (wp_roiSend d L q5 v5 f1)) $$ [Hsrc Hroi Hv]
  · isplitl [Hsrc]; · iexact Hsrc
    isplitl [Hroi]; · iexact Hroi
    iexact Hv
  iintro %_ HF
  iapply (wp_then d L (wp_waitAny d L O semRoi (roiSrc L) roiB _ _ (roiCome (F := F) d L q5 v5))) $$ [HF HO]
  · isplitl [HF]; · iexact HF
    isplitr; · iexact Hmw
    iexact HO
  iintro %_ ⟨⟨Hroi, -⟩, Hvr, HO⟩
  ihave Hout := (show (outB.view.loc (me d L) ↦{fullShare} g : sProp (𝕄 F)) ⊢
    iprop((outB.view.loc (me d L) ↦[slotSet 0]{fullShare} g) ∗ (outB.view.loc (me d L) ↦[slotSet 1]{fullShare} g)) from
      (Entails.of_eq (congrArg (fun S => (outB.view.loc (me d L) ↦[S]{fullShare} g : sProp (𝕄 F))) slot_union.symm)).trans
        (pointsTo_union slot_disjoint).1) $$ Hout
  icases Hout with ⟨Hs0, Hs1⟩
  iapply (wp_then d L (wp_pairs d L (slabM v2 (cg L)) (slabR v5 (rg L)) fd O)) $$ [Hfm Hroi Hs0 Hs1 Hrows Hv0 Hv1 HO]
  · isplitr; · iexact Hmw
    unfold pairInv
    isplitl [Hroi]; · iexact Hroi
    isplitl [Hfm]; · iexact Hfm
    unfold slotSt
    isplitl [Hs0 Hv0]
    · rw [if_neg (by decide : ¬ 0 < 0)]
      isplitl [Hs0]
      · iexists _; iexact Hs0
      iexact Hv0
    isplitl [Hs1 Hv1]
    · rw [if_neg (by decide : ¬ 0 < 0)]
      isplitl [Hs1]
      · iexists _; iexact Hs1
      iexact Hv1
    isplitr
    · rw [show 32 * 0 - 32 = 0 from rfl, rows_none]; iempintro
    isplitl [Hrows]; · iexact Hrows
    iexact HO
  iintro %_ H
  iapply (wp_done d L)
  isplitl [H]; · iexact H
  isplitl [Hvf]; · iexact Hvf
  iexact Hvr

/-- The last two rois: slot 0 waited for, filled, its part sent. -/
theorem wp_tail (fm : FmC F) (rois : RoiC) (fd : ResC F) (O : CellTallies nD τ sig (HIx 1)) :
    iprop(Transfers.MayWaits (me d L) (default : HIx 1) O ∗ pairInv d L fm rois fd O 39)
      ⊢ wp frame (wpE (defs₀ (F := F)) 𝒱₀ (me d L) none) Set.univ (tailProg (F := F) L)
          fun _ => iprop((roiB.view.loc (me d L) ↦{fullShare} rois) ∗ (fmB.view.loc (me d L) ↦{fullShare} fm)
            ∗ slotSt d L fm rois sem1 1 1232 1248 (0 < 39) ∗ rowsAt d L 0 1232 (tileF fm rois (rg L))
            ∗ (∃ g, (outB.view.loc (me d L) ↦[slotSet 0 \ slotTSet]{fullShare} g)
              ∗ Transfers.Flight EC (me d L) (.dma sem0) (default : HIx 1) (tailB L).view.dmaCredit (tailCome d L fm rois g)) ∗ owing d L O) := by
  unfold pairInv tailProg
  iintro ⟨#Hmw, Hroi, Hfm, H0, H1, Hdone, Htodo, HO⟩
  iapply (wp_then d L (wp_waitB d L fm rois O sem0 slot0 ((View.wordExact_bits rfl).reshape _ _) (k0_off19 L 1216#32) (k0_off19_inb L 0)
    0 1216 1232 (0 < 39) (by decide))) $$ [H0 HO]
  · isplitl [H0]; · iexact H0
    isplitr; · iexact Hmw
    iexact HO
  iintro %_ ⟨⟨Hr, ⟨%g0, Hg0⟩⟩, Hv0, HO⟩
  ihave Hdone := (rows_split d L (show 0 ≤ 1216 by omega) (show 1216 ≤ 1232 by omega) (tileF fm rois (rg L))).2 $$ [Hdone Hr]
  · isplitl [Hdone]; · iexact Hdone
    iexact Hr
  iapply (wp_then d L (wp_fillsT d L fm rois g0)) $$ [Hroi Hfm Hg0]
  · isplitl [Hroi]; · iexact Hroi
    isplitl [Hfm]; · iexact Hfm
    iexact Hg0
  iintro %_ ⟨Hroi, Hfm, Hg0⟩
  ihave Hg0 := (pointsTo_split_subset slotTSet_subset).1 $$ Hg0
  icases Hg0 with ⟨Hgt, Hgr⟩
  iapply (wp_then d L (wp_tailSend d L fm rois g0 fd)) $$ [Hgt Htodo Hv0]
  · isplitl [Hgt]; · iexact Hgt
    isplitl [Htodo]; · iexact Htodo
    iexact Hv0
  iintro %_ HF
  iapply (wp_done d L)
  isplitl [Hroi]; · iexact Hroi
  isplitl [Hfm]; · iexact Hfm
  isplitl [H1]; · iexact H1
  isplitl [Hdone]; · iexact Hdone
  isplitl [Hgr HF]
  · iexists _
    isplitl [Hgr]; · iexact Hgr
    iexact HF
  iexact HO

/-- Two slots at any contents are the output buffer at some. -/
theorem slots_join (g0 g1 gt : OutC F) :
    iprop((outB.view.loc (me d L) ↦[slotTSet]{fullShare} gt) ∗ (outB.view.loc (me d L) ↦[slotSet 0 \ slotTSet]{fullShare} g0)
        ∗ (outB.view.loc (me d L) ↦[slotSet 1]{fullShare} g1))
      ⊢ (iprop(∃ g, outB.view.loc (me d L) ↦{fullShare} g) : sProp (𝕄 F)) := by
  iintro ⟨Ht, H0, H1⟩
  ihave H0 := (pointsTo_join_subset (ℓ := outB.view.loc (me d L)) slotTSet_subset) $$ [Ht H0]
  · isplitl [Ht]; · iexact Ht
    iexact H0
  ihave H := (pointsTo_join (ℓ := outB.view.loc (me d L)) slot_disjoint) $$ [H0 H1]
  · isplitl [H0]; · iexact H0
    iexact H1
  iexists _
  iapply (Entails.of_eq (congrArg (fun S => (outB.view.loc (me d L) ↦[S]{fullShare} _ : sProp (𝕄 F))) slot_union)) $$ H

/-- **The task**: from a read share of the two inputs, its rows of the results come out at their values. -/
theorem wp_task (q2 q5 : PosShare TreeShare) (v2 : V2C F) (v5 : V5C) (fd : ResC F) (f0 : FmC F) (f1 : RoiC) (g : OutC F)
    (O : CellTallies nD τ sig (HIx 1)) :
    iprop(Transfers.MayWaits (me d L) (default : HIx 1) O
        ∗ ((fmSrc L).view.loc (me d L) ↦[(fmSrc L).view.set]{q2} v2) ∗ ((roiSrc L).view.loc (me d L) ↦[(roiSrc L).view.set]{q5} v5)
        ∗ rowsAt d L 0 1250 fd
        ∗ (fmB.view.loc (me d L) ↦{fullShare} f0) ∗ (roiB.view.loc (me d L) ↦{fullShare} f1) ∗ (outB.view.loc (me d L) ↦{fullShare} g)
        ∗ idle d L sem0 ∗ idle d L sem1 ∗ idle d L semFm ∗ idle d L semRoi ∗ owing d L O)
      ⊢ wp frame (wpE (defs₀ (F := F)) 𝒱₀ (me d L) none) Set.univ (printed (F := F) L)
          fun _ => iprop(rowsAt d L 0 1250 (resF v2 v5)
            ∗ (∃ f, fmB.view.loc (me d L) ↦{fullShare} f) ∗ (∃ f, roiB.view.loc (me d L) ↦{fullShare} f) ∗ (∃ f, outB.view.loc (me d L) ↦{fullShare} f)
            ∗ idle d L sem0 ∗ idle d L sem1 ∗ idle d L semFm ∗ idle d L semRoi ∗ owing d L O) := by
  rw [printed_eq]
  unfold bodyProg
  iintro ⟨#Hmw, Hs2, Hs5, Hrows, Hfm, Hroi, Hout, Hv0, Hv1, Hvf, Hvr, HO⟩
  iapply (wp_then d L (wp_fmSend d L q2 v2 f0)) $$ [Hs2 Hfm Hvf]
  · isplitl [Hs2]; · iexact Hs2
    isplitl [Hfm]; · iexact Hfm
    iexact Hvf
  iintro %_ HF
  iapply (wp_then d L (wp_main d L q2 q5 v2 v5 fd f1 g O)) $$ [HF Hs5 Hroi Hout Hrows Hvr Hv0 Hv1 HO]
  · isplitr; · iexact Hmw
    isplitl [HF]; · iexact HF
    isplitl [Hs5]; · iexact Hs5
    isplitl [Hroi]; · iexact Hroi
    isplitl [Hout]; · iexact Hout
    isplitl [Hrows]; · iexact Hrows
    isplitl [Hvr]; · iexact Hvr
    isplitl [Hv0]; · iexact Hv0
    isplitl [Hv1]; · iexact Hv1
    iexact HO
  iintro %_ ⟨H, Hvf, Hvr⟩
  iapply (wp_then d L (wp_tail d L (slabM v2 (cg L)) (slabR v5 (rg L)) fd O)) $$ [H]
  · isplitr; · iexact Hmw
    iexact H
  iintro %_ ⟨Hroi, Hfm, H1, Hdone, ⟨%gt, Hgr, HF⟩, HO⟩
  iapply (wp_then d L (wp_waitB d L (slabM v2 (cg L)) (slabR v5 (rg L)) O sem1 slot1 ((View.wordExact_bits rfl).reshape _ _) (k0_off19 L 1232#32) (k0_off19_inb L 1)
    1 1232 1248 (0 < 39) (by decide))) $$ [H1 HO]
  · isplitl [H1]; · iexact H1
    isplitr; · iexact Hmw
    iexact HO
  iintro %_ ⟨⟨Hr, ⟨%g1, Hg1⟩⟩, Hv1, HO⟩
  ihave Hdone := (rows_split d L (show 0 ≤ 1232 by omega) (show 1232 ≤ 1248 by omega) (tileF (slabM v2 (cg L)) (slabR v5 (rg L)) (rg L))).2 $$ [Hdone Hr]
  · isplitl [Hdone]; · iexact Hdone
    iexact Hr
  iapply (wp_then d L (wp_waitAny d L O sem0 slotT (tailB L) _ _ (tailCome d L (slabM v2 (cg L)) (slabR v5 (rg L)) gt))) $$ [HF HO]
  · isplitl [HF]; · iexact HF
    isplitr; · iexact Hmw
    iexact HO
  iintro %_ ⟨⟨Hr, Hgt⟩, Hv0, HO⟩
  ihave Hdone := (rows_split d L (show 0 ≤ 1248 by omega) (show 1248 ≤ 1250 by omega) (tileF (slabM v2 (cg L)) (slabR v5 (rg L)) (rg L))).2 $$ [Hdone Hr]
  · isplitl [Hdone]; · iexact Hdone
    iexact Hr
  iapply (wp_done d L)
  isplitl [Hdone]
  · iapply (Entails.of_eq (pointsTo_congr fun ix hix => tileF_eq v2 v5 (rg L) (cg L) ix hix)) $$ Hdone
  isplitl [Hfm]; · iexists _; iexact Hfm
  isplitl [Hroi]; · iexists _; iexact Hroi
  isplitl [Hgt Hgr Hg1]
  · iapply (slots_join d L gt g1 gt)
    isplitl [Hgt]; · iexact Hgt
    isplitl [Hgr]; · iexact Hgr
    iexact Hg1
  isplitl [Hv0]; · iexact Hv0
  isplitl [Hv1]; · iexact Hv1
  isplitl [Hvf]; · iexact Hvf
  isplitl [Hvr]; · iexact Hvr
  iexact HO

end Cert.Proof.KernelIdeal

end
-- ==== Proof.Ideal.Launch.lean ====
/-
  The launch: what the call deals to the cores and the tiles, and what comes back.
-/
module

public import proofs.«01_k».proof.Proof.Ideal.TileBody

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## A tile's own buffers and cells -/

section Tile
variable (d : Fin nD) (L : grid0.Coords)

abbrev cellOf (s : DmaSem sig) : GSem nD τ sig := (me d L, .dma s)

theorem mem_cell (s : DmaSem sig) (h : (SemLoc.dma s : SemLoc sig).isScoped .scVector = true) : cellOf d L s ∈ ownCells (me d L) :=
  (mem_ownCells (g := cellOf d L s)).mpr ⟨rfl, h⟩
theorem cell_ne {s s' : DmaSem sig} (h : s ≠ s') : cellOf d L s ≠ cellOf d L s' :=
  fun e => h (SemLoc.dma.inj (Prod.mk.inj e).2)

/-- A tile's cells: its four DMA semaphores at zero, and the rest. -/
theorem ownSems0_V :
    (ownSems0 (me d L) : sProp (𝕄 F))
      = iprop(idle d L sem0 ∗ idle d L sem1 ∗ idle d L semFm ∗ idle d L semRoi
          ∗ bigSep (((((ownCells (me d L)).erase (cellOf d L sem0)).erase (cellOf d L sem1)).erase (cellOf d L semFm)).erase (cellOf d L semRoi))
              fun g => semVal g 0) := by
  unfold SparseCore.Cfg.ownSems0
  rw [SparseCore.bigSep_erase' (mem_cell d L sem0 (by decide)),
    SparseCore.bigSep_erase' (Finset.mem_erase.mpr ⟨cell_ne d L (by decide), mem_cell d L sem1 (by decide)⟩),
    SparseCore.bigSep_erase' (Finset.mem_erase.mpr ⟨cell_ne d L (by decide), Finset.mem_erase.mpr ⟨cell_ne d L (by decide),
      mem_cell d L semFm (by decide)⟩⟩),
    SparseCore.bigSep_erase' (Finset.mem_erase.mpr ⟨cell_ne d L (by decide), Finset.mem_erase.mpr ⟨cell_ne d L (by decide),
      Finset.mem_erase.mpr ⟨cell_ne d L (by decide), mem_cell d L semRoi (by decide)⟩⟩⟩)]

abbrev refOf (b : Ref sig .scVector) : DevRef τ sig := (Proc.scVector (cV L) (jV L)).devRef b
theorem ref_ne {b b' : Ref sig .scVector} (h : b ≠ b') : refOf L b ≠ refOf L b' := fun e => h (Proc.devRef_injective _ e)

/-- A tile's buffers: its three scratches, each at some contents, and the rest. -/
theorem ownBufs_V :
    (ownBufs (me d L) : sProp (𝕄 F))
      = iprop((∃ f, fmB.view.loc (me d L) ↦{fullShare} f) ∗ (∃ f, roiB.view.loc (me d L) ↦{fullShare} f) ∗ (∃ f, outB.view.loc (me d L) ↦{fullShare} f)
          ∗ bigSep ((((ownRefs (τ := τ) (.scVector (cV L) (jV L))).erase (refOf L cc0_scratch0)).erase (refOf L cc0_scratch1)).erase (refOf L cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := refOf L cc0_scratch0) rfl)).trans ?_
  rw [SparseCore.bigSep_erase' (Finset.mem_erase.mpr ⟨ref_ne L (by decide),
      SparseCore.Cfg.mem_ownRefs_of_owner (p := Proc.scVector (cV L) (jV L)) (b := refOf L cc0_scratch1) rfl⟩),
    SparseCore.bigSep_erase' (Finset.mem_erase.mpr ⟨ref_ne L (by decide), Finset.mem_erase.mpr ⟨ref_ne L (by decide),
      SparseCore.Cfg.mem_ownRefs_of_owner (p := Proc.scVector (cV L) (jV L)) (b := refOf L cc0_scratch2) rfl⟩⟩)]

end Tile

/-! ## The payloads -/

abbrev v2Loc (d : Dev nD) : Loc nD τ sig := (SparseCore.T d).loc main_v2
abbrev v5Loc (d : Dev nD) : Loc nD τ sig := (SparseCore.T d).loc main_v5
abbrev v6Loc (d : Dev nD) : Loc nD τ sig := (SparseCore.T d).loc main_v6

/-- The coordinates of a tile, as the program's dispatch spells them. -/
def coordsK (c : Fin (grid0.bound 0)) (s : Fin (grid0.bound 1)) : grid0.Coords :=
  fun | 0 => c | 1 => s | ⟨_ + 2, h⟩ => absurd h (Nat.not_lt.2 (Nat.le_add_left _ _))
/-- Tile `i` of core `c`. -/
abbrev tl (c : Fin 2) (i : Fin 16) : grid0.Coords := coordsK c i

/-- Read tokens: core `c`'s, tile `i`'s of core `c`. -/
abbrev qC (c : Fin 2) : PosShare TreeShare := Transfers.shareTok fullShare 2 c
@[inherit_doc qC] abbrev qT (c : Fin 2) (i : Fin 16) : PosShare TreeShare := Transfers.shareTok (qC c) 16 i

/-- A tile's rows of the results. -/
def tileSet (c : Fin 2) (i : Fin 16) : Finset S10000x7x7x4x16.Idx := resRows (rg (tl c i)) (cg (tl c i)) 0 1250
abbrev tileRows (d : Dev nD) (c : Fin 2) (i : Fin 16) (f : ResC F) : sProp (𝕄 F) := v6Loc d ↦[tileSet c i]{fullShare} f

variable (v2 : Dev nD → V2C F) (v5 : Dev nD → V5C) (fd : Dev nD → ResC F)

/-- What tile `i` of core `c` takes: read shares of the feature map and of the rois, and its rows. -/
abbrev tileIn (d : Dev nD) (c : Fin 2) (i : Fin 16) : sProp (𝕄 F) :=
  iprop((v2Loc d ↦{qT c i} v2 d) ∗ (v5Loc d ↦{qT c i} v5 d) ∗ tileRows d c i (fd d))
/-- What it brings back: its rows at their values. -/
abbrev tileOut (d : Dev nD) (c : Fin 2) (i : Fin 16) : sProp (𝕄 F) := tileRows d c i (resF (v2 d) (v5 d))
/-- What core `c` takes. -/
abbrev coreIn (d : Dev nD) (c : Fin 2) : sProp (𝕄 F) :=
  iprop((v2Loc d ↦{qC c} v2 d) ∗ (v5Loc d ↦{qC c} v5 d) ∗ bigSep Finset.univ fun i : Fin 16 => tileRows d c i (fd d))
/-- What it brings back. -/
abbrev coreOut (d : Dev nD) (c : Fin 2) : sProp (𝕄 F) := bigSep Finset.univ fun i : Fin 16 => tileOut v2 v5 d c i

/-- The one call's handshakes. -/
def P : (K (F := F)).Pay (nD := nD) (Val := Elt F) (Name := ℕ) (U := UU) where
  st := fun q d c => match q with | 0 => coreIn v2 v5 fd d (Fin.cast nCore_zero c)
  dn := fun q d c => match q with | 0 => coreOut v2 v5 d (Fin.cast nCore_zero c)
  go := fun q d c i => match q with | 0 => tileIn v2 v5 fd d (Fin.cast nCore_zero c) (Fin.cast nSub_zero i)
  td := fun q d c i => match q with | 0 => tileOut v2 v5 d (Fin.cast nCore_zero c) (Fin.cast nSub_zero i)
  x := fun _ _ => iprop(emp)

instance P_storable : (P v2 v5 fd).IsStorable where
  st q d c := match q with
    | 0 => (inferInstance : BI.Storable (upEmb : UEmb _ (𝕄 F)) (coreIn v2 v5 fd d (Fin.cast nCore_zero c)))
  dn q d c := match q with
    | 0 => (inferInstance : BI.Storable (upEmb : UEmb _ (𝕄 F)) (coreOut v2 v5 d (Fin.cast nCore_zero c)))
  go q d c i := match q with
    | 0 => (inferInstance : BI.Storable (upEmb : UEmb _ (𝕄 F)) (tileIn v2 v5 fd d (Fin.cast nCore_zero c) (Fin.cast nSub_zero i)))
  td q d c i := match q with
    | 0 => (inferInstance : BI.Storable (upEmb : UEmb _ (𝕄 F)) (tileOut v2 v5 d (Fin.cast nCore_zero c) (Fin.cast nSub_zero i)))

/-! ## The task, over what the launch hands a tile -/

/-- A read share of an array holds one of any part of it. -/
theorem share_part {ℓ : Loc nD τ sig} (q : PosShare TreeShare) (f : Buf (Elt F) ℓ) (I : Finset (Idx ℓ)) :
    (ℓ ↦{q} f : sProp (𝕄 F)) ⊢ ℓ ↦[I]{q} f := by
  iintro H
  ihave H := (pointsTo_split_subset (Finset.subset_univ I)).1 $$ H
  icases H with ⟨H, -⟩
  iexact H

theorem tile_body (d : Dev nD) (c : Fin 2) (i : Fin 16) (hF : (K (F := F)).Facts) (O : CellTallies nD τ sig (HIx 1)) (W : Waits sig (HIx 1))
    (hO : ∀ g, O g none = 0) :
    iprop(levAts (K (F := F)).L (K (F := F)).lev ∗ emp ∗ tileIn v2 v5 fd d c i
        ∗ scopedBufs (me d (tl c i)) ∗ scopedSems0 (me d (tl c i)) ∗ owes (me d (tl c i)) O W)
      ⊢ wp frame (wpE (defs₀ (F := F)) 𝒱₀ (me d (tl c i)) none) Set.univ (printed (F := F) (tl c i))
          fun _ => iprop(tileOut v2 v5 d c i ∗ scopedBufs (me d (tl c i)) ∗ scopedSems0 (me d (tl c i))
            ∗ ∃ W', ⌜∀ p ∈ W', p ∈ W ∨ p.2 = none ∨ p.2 = some (0 : Fin 1)⌝ ∗ owes (me d (tl c i)) O W') := by
  rw [(K (F := F)).scopedBufs_V hF d (cV (tl c i)) (jV (tl c i)), SparseCore.Cfg.scopedSems0_V (Val := Elt F) d (cV (tl c i)) (jV (tl c i)),
    ownSems0_V, ownBufs_V]
  iintro ⟨#Hlv, -, ⟨H2, H5, Hr⟩, ⟨⟨%f0, H0⟩, ⟨%f1, H1⟩, ⟨%g, Hg⟩, Hbufs⟩, ⟨Hv0, Hv1, Hvf, Hvr, Hsems⟩, HO⟩
  ihave Hmw := (show levAts (K (F := F)).L (K (F := F)).lev ⊢ Transfers.MayWaits (me d (tl c i)) (default : HIx 1) O from
    (K (F := F)).mayWaits_none (thr := me d (tl c i)) hO) $$ Hlv
  ihave H2 := (share_part (qT c i) (v2 d) (fmSrc (tl c i)).view.set) $$ H2
  ihave H5 := (share_part (F := F) (qT c i) (v5 d) (roiSrc (tl c i)).view.set) $$ H5
  iapply (wp_wand_r frame (wpE (defs₀ (F := F)) 𝒱₀ (me d (tl c i)) none) Set.univ)
  isplitl [Hmw H2 H5 Hr H0 H1 Hg Hv0 Hv1 Hvf Hvr HO]
  · iapply (wp_task d (tl c i) (qT c i) (qT c i) (v2 d) (v5 d) (fd d) f0 f1 g O)
    isplitl [Hmw]; · iexact Hmw
    isplitl [H2]; · iexact H2
    isplitl [H5]; · iexact H5
    isplitl [Hr]; · iexact Hr
    isplitl [H0]; · iexact H0
    isplitl [H1]; · iexact H1
    isplitl [Hg]; · iexact Hg
    isplitl [Hv0]; · iexact Hv0
    isplitl [Hv1]; · iexact Hv1
    isplitl [Hvf]; · iexact Hvf
    isplitl [Hvr]; · iexact Hvr
    iexists W; iexact HO
  iintro %_ ⟨Hr, H0, H1, Hg, Hv0, Hv1, Hvf, Hvr, ⟨%W', HO⟩⟩
  isplitl [Hr]; · iexact Hr
  isplitl [H0 H1 Hg Hbufs]
  · isplitl [H0]; · iexact H0
    isplitl [H1]; · iexact H1
    isplitl [Hg]; · iexact Hg
    iexact Hbufs
  isplitl [Hv0 Hv1 Hvf Hvr Hsems]
  · isplitl [Hv0]; · iexact Hv0
    isplitl [Hv1]; · iexact Hv1
    isplitl [Hvf]; · iexact Hvf
    isplitl [Hvr]; · iexact Hvr
    iexact Hsems
  iexists W'; isplitr
  swap; · iexact HO
  ipureintro; intro p _
  rcases p.2 with _ | q
  · exact .inr (.inl rfl)
  · exact .inr (.inr (congrArg some (Subsingleton.elim q 0)))

theorem defs₀_vector (c : Fin τ.nSC) (s : Fin τ.nSub) :
    defs₀ (F := F) (.scVector c s) 0 () = SparseCore.onTile hcore0 hsub0 (fun c s => printed (F := F) (coordsK c s)) ⟨⟩ c s := rfl

theorem tileObl (hF : (K (F := F)).Facts) : (K (F := F)).TileObl (D (F := F)) 𝒱 (P v2 v5 fd) v₀ 0 := by
  intro d c i O W hO _ _
  simp only [show (P v2 v5 fd).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body v2 v5 fd d (Fin.cast nCore_zero c) (Fin.cast nSub_zero i) hF O W hO

/-! ## A core's part dealt to its tiles -/

theorem bigSep_tasks (Φ : Fin 16 → sProp (𝕄 F)) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp (𝕄 F)) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P v2 v5 fd) 0 := by
  intro d c
  show coreIn v2 v5 fd d (Fin.cast nCore_zero c) ⊢ |={Set.univ}=> iprop(
      (bigSep Finset.univ fun i : Fin ((K (F := F)).nSub 0) => tileIn v2 v5 fd d (Fin.cast nCore_zero c) (Fin.cast nSub_zero i))
      ∗ ((bigSep Finset.univ fun i : Fin ((K (F := F)).nSub 0) => tileOut v2 v5 d (Fin.cast nCore_zero c) (Fin.cast nSub_zero i))
          -∗ coreOut v2 v5 d (Fin.cast nCore_zero c)))
  rw [bigSep_tasks (F := F) (fun i => tileIn v2 v5 fd d (Fin.cast nCore_zero c) i),
    bigSep_tasks (F := F) (fun i => tileOut v2 v5 d (Fin.cast nCore_zero c) i), bigSep_sep', bigSep_sep']
  iintro ⟨H2, H5, Hr⟩
  ihave H2 := (Transfers.pointsTo_toks_split (qC (Fin.cast nCore_zero c)) 16) $$ H2
  icases H2 with ⟨-, H2⟩
  ihave H5 := (Transfers.pointsTo_toks_split (qC (Fin.cast nCore_zero c)) 16) $$ H5
  icases H5 with ⟨-, H5⟩
  imodintro
  isplitl [H2 H5 Hr]
  · isplitl [H2]; · iexact H2
    isplitl [H5]; · iexact H5
    iexact Hr
  iintro H
  iexact H

/-! ## The results dealt to the cores, and joined -/

theorem mem_tileSet {c : Fin 2} {i : Fin 16} {ix : S10000x7x7x4x16.Idx} :
    ix ∈ tileSet c i ↔ (ix 0).val / 1250 = (2 * i.val + c.val) % 8 ∧ (ix 3).val = (2 * i.val + c.val) / 8 := by
  unfold tileSet
  rw [mem_resRows]
  have e1 : rg (tl c i) = (2 * i.val + c.val) % 8 := rfl
  have e2 : cg (tl c i) = (2 * i.val + c.val) / 8 := rfl
  rw [e1, e2]
  omega

/-- Core `c`'s rows. -/
def coreSet (c : Fin 2) : Finset S10000x7x7x4x16.Idx := Finset.univ.biUnion (tileSet c)

theorem tiles_disjoint (c : Fin 2) : ∀ i ∈ (Finset.univ : Finset (Fin 16)), ∀ j ∈ (Finset.univ : Finset (Fin 16)), i ≠ j →
    Disjoint (tileSet c i) (tileSet c j) := by
  intro i _ j _ h
  rw [Finset.disjoint_left]
  intro ix h1 h2
  rw [mem_tileSet] at h1 h2
  exact h (Fin.ext (by omega))

theorem cores_disjoint : ∀ c ∈ (Finset.univ : Finset (Fin 2)), ∀ c' ∈ (Finset.univ : Finset (Fin 2)), c ≠ c' → Disjoint (coreSet c) (coreSet c') := by
  intro c _ c' _ h
  rw [Finset.disjoint_left]
  intro ix h1 h2
  obtain ⟨i, -, h1⟩ := Finset.mem_biUnion.mp h1
  obtain ⟨j, -, h2⟩ := Finset.mem_biUnion.mp h2
  rw [mem_tileSet] at h1 h2
  exact h (Fin.ext (by omega))

theorem cores_cover : (Finset.univ : Finset (Fin 2)).biUnion coreSet = Finset.univ := by
  ext ix
  simp only [Finset.mem_univ, iff_true, Finset.mem_biUnion, true_and]
  have h0 : (ix 0).val < 10000 := (ix 0).isLt
  have h3 : (ix 3).val < 4 := (ix 3).isLt
  refine ⟨⟨(8 * (ix 3).val + (ix 0).val / 1250) % 2, by omega⟩, ?_⟩
  unfold coreSet
  rw [Finset.mem_biUnion]
  refine ⟨⟨(8 * (ix 3).val + (ix 0).val / 1250) / 2, by omega⟩, Finset.mem_univ _, ?_⟩
  rw [mem_tileSet]
  dsimp only
  omega

/-- The results are the cores' tiles' rows. -/
theorem rows_eq (d : Dev nD) (f : ResC F) :
    (v6Loc d ↦{fullShare} f : sProp (𝕄 F)) = bigSep Finset.univ fun c : Fin 2 => bigSep Finset.univ fun i : Fin 16 => tileRows d c i f := by
  have e : ∀ c : Fin 2, (bigSep Finset.univ fun i : Fin 16 => (tileRows d c i f : sProp (𝕄 F))) = (v6Loc d ↦[coreSet c]{fullShare} f) := fun c =>
    (pointsTo_biUnion Finset.univ (ℓ := v6Loc d) (tileSet c) (tiles_disjoint c)).symm
  simp only [e]
  rw [← pointsTo_biUnion Finset.univ (ℓ := v6Loc d) coreSet cores_disjoint, cores_cover]; try rfl

/-- What the call takes, and what it brings back. -/
theorem st_intro (d : Dev nD) :
    iprop((v2Loc d ↦{fullShare} v2 d) ∗ (v5Loc d ↦{fullShare} v5 d) ∗ (v6Loc d ↦{fullShare} fd d))
      ⊢ (bigSep Finset.univ fun c : Fin ((K (F := F)).nCore 0) => (P v2 v5 fd).st 0 d c : sProp (𝕄 F)) := by
  show _ ⊢ (bigSep Finset.univ fun c : Fin ((K (F := F)).nCore 0) => coreIn v2 v5 fd d (Fin.cast nCore_zero c) : sProp (𝕄 F))
  rw [bigSep_cores (F := F) (fun c => coreIn v2 v5 fd d c), bigSep_sep', bigSep_sep', rows_eq]
  iintro ⟨H2, H5, Hr⟩
  ihave H2 := (Transfers.pointsTo_toks_split fullShare 2) $$ H2
  icases H2 with ⟨-, H2⟩
  ihave H5 := (Transfers.pointsTo_toks_split fullShare 2) $$ H5
  icases H5 with ⟨-, H5⟩
  isplitl [H2]; · iexact H2
  isplitl [H5]; · iexact H5
  iexact Hr

theorem dn_eq (d : Dev nD) :
    (bigSep Finset.univ fun c : Fin ((K (F := F)).nCore 0) => (P v2 v5 fd).dn 0 d c : sProp (𝕄 F)) = (v6Loc d ↦{fullShare} resF (v2 d) (v5 d)) := by
  show (bigSep Finset.univ fun c : Fin ((K (F := F)).nCore 0) => coreOut v2 v5 d (Fin.cast nCore_zero c) : sProp (𝕄 F)) = _
  rw [bigSep_cores (F := F) (fun c => coreOut v2 v5 d c), rows_eq]

end Cert.Proof.KernelIdeal

end
-- ==== Proof.Ideal.Main.lean ====
/-
  @main around the call, the program's run, and the frame.
-/
module

public import proofs.«01_k».proof.Proof.Ideal.Launch

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]
variable (m : (ℓ : Loc nD τ sig) → Buf (Elt F) ℓ) (ρ : Dev nD → PrngReg)

/-! ## @main's host operations -/

abbrev op0 : HloOp τ sig (Elt F) := StableHlo.reshape main_arg0 main_v0 (rfl : (.f32 : EltTy) = .f32) shapeCasts_S1x64x64x64_S64x64x64
abbrev op1 : HloOp τ sig (Elt F) := StableHlo.reshape main_v0 main_v1 (rfl : (.f32 : EltTy) = .f32) shapeCasts_S64x64x64_S64x64x4x16
abbrev op2 : HloOp τ sig (Elt F) := StableHlo.unary main_v1 main_v2 ((transpose S4x64x64x16 [2, 0, 1, 3] · transposes_S64x64x4x16_S4x64x64x16_2_0_1_3) : (⟨S64x64x4x16, .f32⟩ : BufTy).Contents (Elt F) → (⟨S4x64x64x16, .f32⟩ : BufTy).Contents (Elt F))
abbrev op3 : HloOp τ sig (Elt F) := StableHlo.reshape main_arg1 main_v3 (rfl : (.i32 : EltTy) = .i32) shapeCasts_S1x10000x4_S10000x4
abbrev op4 : HloOp τ sig (Elt F) := StableHlo.reshape main_v3 main_v4 (rfl : (.i32 : EltTy) = .i32) shapeCasts_S10000x4_S8x1250x4
abbrev op5 : HloOp τ sig (Elt F) := StableHlo.nullary main_c (constantI S_ 32 0#32)
abbrev op6 : HloOp τ sig (Elt F) := StableHlo.unary main_c main_call0_v0 (id : (⟨S_, .i32⟩ : BufTy).Contents (Elt F) → (⟨S_, .i32⟩ : BufTy).Contents (Elt F))
abbrev op7 : HloOp τ sig (Elt F) := StableHlo.binary main_v4 main_call0_v0 main_v5 ((fun x v => pad S8x1250x16 ![0, 0, 0] ![0, 0, 12] ![0, 0, 0] x v pads_S8x1250x4_S8x1250x16_000_000_0120 h_S_) : (⟨S8x1250x4, .i32⟩ : BufTy).Contents (Elt F) → (⟨S_, .i32⟩ : BufTy).Contents (Elt F) → (⟨S8x1250x16, .i32⟩ : BufTy).Contents (Elt F))
abbrev op8 : HloOp τ sig (Elt F) := StableHlo.reshape main_v6 main_v7 (rfl : (.f32 : EltTy) = .f32) shapeCasts_S10000x7x7x4x16_S1x10000x7x7x64

/-- The feature map as the tiles read it, the rois as they do, and the result from what the tiles leave. -/
def v2Of (x : FVec F S1x64x64x64 .f32) : V2C F :=
  transpose S4x64x64x16 [2, 0, 1, 3] (shapeCast S64x64x4x16 (shapeCast S64x64x64 x shapeCasts_S1x64x64x64_S64x64x64) shapeCasts_S64x64x64_S64x64x4x16)
    transposes_S64x64x4x16_S4x64x64x16_2_0_1_3
@[inherit_doc v2Of] def v5Of (r : IVec S1x10000x4 32) : V5C :=
  pad S8x1250x16 ![0, 0, 0] ![0, 0, 12] ![0, 0, 0] (shapeCast S8x1250x4 (shapeCast S10000x4 r shapeCasts_S1x10000x4_S10000x4) shapeCasts_S10000x4_S8x1250x4)
    (constantI S_ 32 0#32) pads_S8x1250x4_S8x1250x16_000_000_0120 h_S_
@[inherit_doc v2Of] def v7Of (x : FVec F S1x64x64x64 .f32) (r : IVec S1x10000x4 32) : FVec F S1x10000x7x7x64 .f32 :=
  shapeCast S1x10000x7x7x64 (resF (v2Of x) (v5Of r)) shapeCasts_S10000x7x7x4x16_S1x10000x7x7x64

abbrev xLoc (d : Dev nD) : Loc nD τ sig := (SparseCore.T d).loc main_arg0
abbrev rLoc (d : Dev nD) : Loc nD τ sig := (SparseCore.T d).loc main_arg1
abbrev yLoc (d : Dev nD) : Loc nD τ sig := (SparseCore.T d).loc main_v7

abbrev hb (b : Ref sig .tc) : DevRef τ sig := Proc.devRef .tc b
/-- @main's twelve arrays. -/
abbrev S12 : Finset (DevRef τ sig) :=
  {hb main_arg0, hb main_arg1, hb main_v0, hb main_v1, hb main_v2, hb main_v3, hb main_v4, hb main_c, hb main_call0_v0, hb main_v5, hb main_v6, hb main_v7}
/-- The last operation's two. -/
abbrev S2 : Finset (DevRef τ sig) := {hb main_v6, hb main_v7}

abbrev at' (d : Dev nD) (W : Valuation τ sig (Elt F)) (b : Ref sig .tc) : sProp (𝕄 F) := (SparseCore.T d).loc b ↦{fullShare} W (hb b)

theorem held_S12 (d : Dev nD) (W : Valuation τ sig (Elt F)) :
    (held (T d) S12 W : sProp (𝕄 F))
      = iprop(at' d W main_arg0 ∗ at' d W main_arg1 ∗ at' d W main_v0 ∗ at' d W main_v1 ∗ at' d W main_v2 ∗ at' d W main_v3 ∗ at' d W main_v4
          ∗ at' d W main_c ∗ at' d W main_call0_v0 ∗ at' d W main_v5 ∗ at' d W main_v6 ∗ at' d W main_v7) := by
  unfold held S12
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem held_S2 (d : Dev nD) (W : Valuation τ sig (Elt F)) :
    (held (T d) S2 W : sProp (𝕄 F)) = iprop(at' d W main_v6 ∗ at' d W main_v7) := by
  unfold held S2
  rw [SparseCore.bigSep_insert' (by decide), bigSep_singleton]

def V0 (d : Dev nD) : Valuation τ sig (Elt F) := fun b => m (d, b)

theorem unscoped_held (d : Dev nD) : (unscopedBufs d (fun b => m ((SparseCore.T d).loc b)) : sProp (𝕄 F)) = held (T d) S12 (V0 m d) := by
  rw [held_S12]
  unfold unscopedBufs
  rw [show (Finset.univ.filter fun b : Ref sig .tc => ¬ b.isScoped)
      = {main_arg0, main_arg1, main_v0, main_v1, main_v2, main_v3, main_v4, main_c, main_call0_v0, main_v5, main_v6, main_v7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

/-- What the arrays hold when the call starts. -/
def V8 (d : Dev nD) : Valuation τ sig (Elt F) :=
  (op7 (F := F)).result ((op6 (F := F)).result ((op5 (F := F)).result ((op4 (F := F)).result ((op3 (F := F)).result ((op2 (F := F)).result
    ((op1 (F := F)).result ((op0 (F := F)).result (V0 m d))))))))

theorem V8_chain (d : Dev nD) : (op7 (F := F)).result ((op6 (F := F)).result ((op5 (F := F)).result ((op4 (F := F)).result ((op3 (F := F)).result ((op2 (F := F)).result
    ((op1 (F := F)).result ((op0 (F := F)).result (V0 m d)))))))) = V8 m d := rfl

theorem V8_eq (d : Dev nD) : V8 m d = StableHlo.after [op0, op1, op2, op3, op4, op5, op6, op7] (V0 m d) := rfl

theorem V8_x (d : Dev nD) : V8 m d (hb main_arg0) = m (xLoc d) := by
  rw [V8_eq]; after_results_simp; rfl
theorem V8_r (d : Dev nD) : V8 m d (hb main_arg1) = m (rLoc d) := by
  rw [V8_eq]; after_results_simp; rfl
theorem V8_v2 (d : Dev nD) : V8 m d (hb main_v2) = v2Of (m (xLoc d)) := by
  rw [V8_eq]; after_results_simp; rfl
theorem V8_v5 (d : Dev nD) : V8 m d (hb main_v5) = v5Of (m (rLoc d)) := by
  rw [V8_eq]; after_results_simp; rfl

abbrev Pm : (K (F := F)).Pay (nD := nD) (Val := Elt F) (Name := ℕ) (U := UU) :=
  P (fun d => v2Of (m (xLoc d))) (fun d => v5Of (m (rLoc d))) (fun d => V8 m d (hb main_v6))

/-- After the call: the tiles' rows. -/
def V9 (d : Dev nD) : Valuation τ sig (Elt F) :=
  Function.update (V8 m d) (hb main_v6) (resF (v2Of (m (xLoc d))) (v5Of (m (rLoc d))) : ResC F)
theorem V9_v6 (d : Dev nD) : V9 m d (hb main_v6) = (resF (v2Of (m (xLoc d))) (v5Of (m (rLoc d))) : ResC F) := Function.update_self _ _ _
theorem V9_v7 (d : Dev nD) : V9 m d (hb main_v7) = V8 m d (hb main_v7) := Function.update_of_ne (show hb main_v7 ≠ hb main_v6 by decide) _ _

theorem V10_v7 (d : Dev nD) : (op8 (F := F)).result (V9 m d) (hb main_v7) = v7Of (m (xLoc d)) (m (rLoc d)) :=
  (StableHlo.reshape_result _ _ _ _ _ _ _).trans (by rw [V9_v6]; rfl)

/-! ## The launch element -/

def u₀ : UU := (initOf (K (F := F)).hsCells (K (F := F)).hsToks, 1)

theorem bigSep_emp' {I : Type} (s : Finset I) : (bigSep s fun _ => iprop(emp)) = (iprop(emp) : sProp (𝕄 F)) := bigSep_emp_const s

theorem hu₀ : (ownU (u₀ (F := F)) : sProp (𝕄 F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (Pm m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (Pm m).x q thr) = bigSep Finset.univ fun _ => iprop(emp) from
    bigSep_congr fun _ _ => bigSep_univ_of_subsingleton (0 : Fin 1), bigSep_emp']
  iempintro

/-! ## @main on the TensorCore -/

/-- What @main leaves: its arguments at their launch contents, its result at its value. -/
abbrev FIN (d : Dev nD) : sProp (𝕄 F) :=
  iprop((xLoc d ↦{fullShare} m (xLoc d)) ∗ (rLoc d ↦{fullShare} m (rLoc d)) ∗ (yLoc d ↦{fullShare} v7Of (m (xLoc d)) (m (rLoc d))))

theorem hmain (κ : GSem nD τ sig → ℕ) (d : Dev nD) :
    iprop((K (F := F)).ctx EH (Pm m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, -⟩
  iapply (wp_hlo_within 𝒱 (SparseCore.T d) none Set.univ (op := op0) (S := S12) (show ({hb main_arg0, hb main_v0} : Finset (DevRef τ sig)) ⊆ S12 by decide) (V := V0 m d)) $$ [Hb Hheld]
  · isplitl [Hb] <;> iassumption
  iintro ⟨Hb, Hheld⟩
  rw [wp_ret]; imodintro
  iapply (wp_hlo_within 𝒱 (SparseCore.T d) none Set.univ (op := op1) (S := S12) (show ({hb main_v0, hb main_v1} : Finset (DevRef τ sig)) ⊆ S12 by decide)) $$ [Hb Hheld]
  · isplitl [Hb] <;> iassumption
  iintro ⟨Hb, Hheld⟩
  rw [wp_ret]; imodintro
  iapply (wp_hlo_within 𝒱 (SparseCore.T d) none Set.univ (op := op2) (S := S12) (show ({hb main_v1, hb main_v2} : Finset (DevRef τ sig)) ⊆ S12 by decide)) $$ [Hb Hheld]
  · isplitl [Hb] <;> iassumption
  iintro ⟨Hb, Hheld⟩
  rw [wp_ret]; imodintro
  iapply (wp_hlo_within 𝒱 (SparseCore.T d) none Set.univ (op := op3) (S := S12) (show ({hb main_arg1, hb main_v3} : Finset (DevRef τ sig)) ⊆ S12 by decide)) $$ [Hb Hheld]
  · isplitl [Hb] <;> iassumption
  iintro ⟨Hb, Hheld⟩
  rw [wp_ret]; imodintro
  iapply (wp_hlo_within 𝒱 (SparseCore.T d) none Set.univ (op := op4) (S := S12) (show ({hb main_v3, hb main_v4} : Finset (DevRef τ sig)) ⊆ S12 by decide)) $$ [Hb Hheld]
  · isplitl [Hb] <;> iassumption
  iintro ⟨Hb, Hheld⟩
  rw [wp_ret]; imodintro
  iapply (wp_hlo_within 𝒱 (SparseCore.T d) none Set.univ (op := op5) (S := S12) (show ({hb main_c} : Finset (DevRef τ sig)) ⊆ S12 by decide)) $$ [Hb Hheld]
  · isplitl [Hb] <;> iassumption
  iintro ⟨Hb, Hheld⟩
  rw [wp_ret]; imodintro
  iapply (wp_hlo_within 𝒱 (SparseCore.T d) none Set.univ (op := op6) (S := S12) (show ({hb main_c, hb main_call0_v0} : Finset (DevRef τ sig)) ⊆ S12 by decide)) $$ [Hb Hheld]
  · isplitl [Hb] <;> iassumption
  iintro ⟨Hb, Hheld⟩
  rw [wp_ret]; imodintro
  iapply (wp_hlo_within 𝒱 (SparseCore.T d) none Set.univ (op := op7) (S := S12) (show ({hb main_v4, hb main_call0_v0, hb main_v5} : Finset (DevRef τ sig)) ⊆ S12 by decide)) $$ [Hb Hheld]
  · isplitl [Hb] <;> iassumption
  iintro ⟨Hb, Hheld⟩
  rw [wp_ret]; imodintro; imodintro
  ihave Hh := (Entails.of_eq ((congrArg (fun W => (held (T d) S12 W : sProp (𝕄 F))) (V8_chain m d)).trans (held_S12 (F := F) d (V8 m d)))) $$ Hheld
  icases Hh with ⟨Hx, Hr, -, -, H2, -, -, -, -, H5, H6, H7⟩
  ihave Hx := (Entails.of_eq (congrArg (fun f => (xLoc d ↦{fullShare} f : sProp (𝕄 F))) (V8_x m d))) $$ Hx
  ihave Hr := (Entails.of_eq (congrArg (fun f => (rLoc d ↦{fullShare} f : sProp (𝕄 F))) (V8_r m d))) $$ Hr
  ihave H2 := (Entails.of_eq (congrArg (fun f => (v2Loc d ↦{fullShare} f : sProp (𝕄 F))) (V8_v2 m d))) $$ H2
  ihave H5 := (Entails.of_eq (congrArg (fun f => (v5Loc d ↦{fullShare} f : sProp (𝕄 F))) (V8_v5 m d))) $$ H5
  iapply ((K (F := F)).wp_run (D (F := F)) 𝒱 (EH := EH) (P := Pm m) κ d 0) $$ [Hst Hx Hr H2 H5 H6 H7 Hb Hts]
  isplitr; · iexact Hctx
  isplitl [Hst]; · iexact Hst
  isplitl [H2 H5 H6]
  · iapply (st_intro (fun d => v2Of (m (xLoc d))) (fun d => v5Of (m (rLoc d))) (fun d => V8 m d (hb main_v6)) d)
    isplitl [H2]; · iexact H2
    isplitl [H5]; · iexact H5
    iexact H6
  iintro ⟨Hst, Hdn⟩
  ihave H6 := (Entails.of_eq (dn_eq (fun d => v2Of (m (xLoc d))) (fun d => v5Of (m (rLoc d))) (fun d => V8 m d (hb main_v6)) d)) $$ Hdn
  iapply (wp_hlo_within 𝒱 (SparseCore.T d) none Set.univ (op := op8) (S := S2) (show ({hb main_v6, hb main_v7} : Finset (DevRef τ sig)) ⊆ S2 by decide) (V := V9 m d)) $$ [Hb H6 H7]
  · isplitl [Hb]; · iexact Hb
    rw [held_S2]
    isplitl [H6]
    · iapply (Entails.of_eq (congrArg (fun f => (v6Loc d ↦{fullShare} f : sProp (𝕄 F))) (V9_v6 m d).symm)) $$ H6
    · iapply (Entails.of_eq (congrArg (fun f => (yLoc d ↦{fullShare} f : sProp (𝕄 F))) (V9_v7 m d).symm)) $$ H7
  iintro ⟨Hb, Hheld⟩
  ihave Hh := (Entails.of_eq (held_S2 (F := F) d _)) $$ Hheld
  icases Hh with ⟨-, H7⟩
  ihave H7 := (Entails.of_eq (congrArg (fun f => (yLoc d ↦{fullShare} f : sProp (𝕄 F))) (V10_v7 m d))) $$ H7
  rw [wp_ret]; imodintro; imodintro
  isplitl [Hst]; · iexact Hst
  isplitr [Hb Hts]
  · isplitl [Hx]; · iexact Hx
    isplitl [Hr]; · iexact Hr
    iexact H7
  isplitl [Hb] <;> iassumption

def fq (d : Dev nD) (s' : Phys nD τ sig (Elt F)) : Prop :=
  s'.mem.mem (yLoc d) = v7Of (m (xLoc d)) (m (rLoc d)) ∧ s'.mem.mem (xLoc d) = m (xLoc d) ∧ s'.mem.mem (rLoc d) = m (rLoc d)

theorem hfin (d : Dev nD) (s' : Phys nD τ sig (Elt F)) : iprop(FIN m d ∗ SI s') ⊢ (⌜fq m d s'⌝ : sProp (𝕄 F)) := by
  iintro ⟨⟨Hx, Hr, Hy⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := rLoc d) (I := Finset.univ) (q := fullShare) (f := m (rLoc d)))) $$ [HSI Hr]
  · isplitl [HSI] <;> iassumption
  icases H with ⟨%hr, HSI, -⟩
  ihave H := (SI_pointsTo_agree (st := s') (ℓ := yLoc d) (I := Finset.univ) (q := fullShare) (f := v7Of (m (xLoc d)) (m (rLoc d)))) $$ [HSI Hy]
  · isplitl [HSI] <;> iassumption
  icases H with %hy
  ipureintro
  exact ⟨funext fun i => hy i (Finset.mem_univ i), funext fun i => hx i (Finset.mem_univ i), funext fun i => hr i (Finset.mem_univ i)⟩

/-! ## The program's run and the frame -/

def QC : PUnit × MemSt nD τ sig (Elt F) → Prop := fun r =>
  (∀ c : Dev nD, r.2.mem (yLoc c) = v7Of (m (xLoc c)) (m (rLoc c)) ∧ r.2.mem (xLoc c) = m (xLoc c) ∧ r.2.mem (rLoc c) = m (rLoc c))
    ∧ r.2.sem = fun _ => 0

/-- Every run ends with the result at its value, the arguments unchanged, every counter at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl _ _ _ facts)
    (fun q _ => match q with | 0 => SparseCore.Cfg.VecSplit.of_plain (vecSplit _ _ _))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.Frames.lean ====
/-
  The three frames: each program's run, read at its arguments and at the counters.
-/
module

public import proofs.«01_k».proof.Proof.Main
public import proofs.«01_k».proof.Proof.Ideal.Main
public import proofs.«01_k».proof.Proof.Gen.ReferenceIdeal.Run

@[expose] public section

noncomputable section

namespace Cert.Proof

open Idealize.ShloMosaic Idealize.SL.Sem

/-- The kernel terminates, faults nowhere, keeps its arguments and ends with every counter at zero. -/
theorem frame_kernel : Cert.quiescent_Kernel (hKernel := Cert.Kernel.Gen.facts) := fun m ρ _ =>
  (θ_run Cert.Kernel.defs _ _).mono (fun _ h => ⟨fun c => (h.1 c).2, h.2⟩) (Kernel.run_main (F := Bits) m ρ)

/-- So does the idealized kernel. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (KernelIdeal.run_main (F := Ideal) m ρ)

/-- So does the idealized reference, which names no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof

end
-- ==== Proof.Value.Scalar.lean ====
/-
  One axis of one roi, as extended reals: where the sample at a position of an extent lies, its whole part, its fraction,
  and the two whole coordinates between which it lies. The kernel and the reference both compute these; the facts here
  are what their two formulas need to agree.
-/
module

public import Idealize.ShloMosaic.PureOps.Ideal
public import Idealize.ShloMosaic.Lib.IdealHost

@[expose] public section

noncomputable section

namespace Cert.Proof.Value

open Idealize.ShloMosaic

/-- The constant one half. -/
theorem ofBits_half : Ideal.ofBits .f32 0x3F000000#32 = ((1 / 2 : ℝ) : EReal) := by
  simp [Ideal.ofBits, Ideal.ieee, -EReal.coe_mul]; norm_num

/-- The constant seven. -/
theorem ofBits_seven : Ideal.ofBits .f32 0x40E00000#32 = ((7 : ℝ) : EReal) := by
  simp [Ideal.ofBits, Ideal.ieee, -EReal.coe_mul]; norm_num

/-- A word as an extended real. -/
def numS (b : BitVec 32) : EReal := ((b.toInt : ℝ) : EReal)

/-- The coordinate sampled at position `k` of an extent `e`, measured from the roi's start. -/
def coordS (k e : BitVec 32) : EReal :=
  min (max (numS e - Ideal.ofBits .f32 0x3F800000#32) (Ideal.ofBits .f32 0x00000000#32))
    (max (Ideal.ofBits .f32 0x00000000#32)
      ((numS k + Ideal.ofBits .f32 0x3F000000#32) * Ideal.div (numS e) (Ideal.ofBits .f32 0x40E00000#32) - Ideal.ofBits .f32 0x3F000000#32))

/-- The same coordinate as a real number. -/
def coordR (k e : BitVec 32) : ℝ :=
  min (max ((e.toInt : ℝ) - 1) 0) (max 0 (((k.toInt : ℝ) + 1 / 2) * ((e.toInt : ℝ) * (1 / 7)) - 1 / 2))

theorem coe_max (a b : ℝ) : ((max a b : ℝ) : EReal) = max (a : EReal) (b : EReal) :=
  Monotone.map_max (fun _ _ h => EReal.coe_le_coe_iff.2 h)

theorem coe_min (a b : ℝ) : ((min a b : ℝ) : EReal) = min (a : EReal) (b : EReal) :=
  Monotone.map_min (fun _ _ h => EReal.coe_le_coe_iff.2 h)

/-- The coordinate is a real number. -/
theorem coordS_eq (k e : BitVec 32) : coordS k e = (coordR k e : EReal) := by
  unfold coordS coordR numS
  rw [Ideal.ofBits_one_f32, Ideal.ofBits_zero_f32, ofBits_half, ofBits_seven, Ideal.div_coe (by norm_num)]
  rw [coe_min, coe_max, coe_max, EReal.coe_sub, EReal.coe_sub, EReal.coe_mul, EReal.coe_add, EReal.coe_mul]
  norm_num

/-- It is not negative. -/
theorem coordR_nonneg (k e : BitVec 32) : 0 ≤ coordR k e := le_min (le_max_right _ _) (le_max_left _ _)

/-- The coordinate's whole part. -/
def lowS (k e : BitVec 32) : BitVec 32 := Ideal.fptosi 32 (coordS k e)

/-- Rounding the coordinate down first does not change its whole part: it is not negative. -/
theorem lowS_floor (k e : BitVec 32) : Ideal.fptosi 32 (Ideal.liftRound Int.floor (coordS k e)) = lowS k e := by
  have h := coordR_nonneg k e
  have h' : (0 : ℝ) ≤ (⌊coordR k e⌋ : ℝ) := by exact_mod_cast Int.floor_nonneg.2 h
  unfold lowS
  rw [coordS_eq, Ideal.liftRound_coe]
  unfold Ideal.fptosi
  congr 1
  show max _ (min _ (if (0 : ℝ) ≤ (⌊coordR k e⌋ : ℝ) then _ else _)) = max _ (min _ (if (0 : ℝ) ≤ coordR k e then _ else _))
  rw [if_pos h, if_pos h', Int.floor_intCast]

/-- The coordinate's fraction. -/
def wtS (k e : BitVec 32) : EReal := coordS k e - numS (lowS k e)

/-- The fraction is a real number. -/
theorem wtS_real (k e : BitVec 32) : ∃ w : ℝ, wtS k e = (w : EReal) :=
  ⟨coordR k e - ((lowS k e).toInt : ℝ), by unfold wtS numS; rw [coordS_eq, EReal.coe_sub]⟩

/-- The next whole coordinate within the roi. -/
def nextS (k e : BitVec 32) : BitVec 32 :=
  IntOp.minsi (IntOp.addi (lowS k e) 1#32) (IntOp.maxsi (IntOp.subi e 1#32) 0#32)

/-- A coordinate held within the feature map. -/
def clipS (x : BitVec 32) : BitVec 32 := IntOp.minsi 63#32 (IntOp.maxsi 0#32 x)

/-- The lower and the upper of the two coordinates between which a sample lies, of a roi's start `b` and extent `e`. -/
def aS (b k e : BitVec 32) : BitVec 32 := clipS (IntOp.addi b (lowS k e))
@[inherit_doc aS] def bS (b k e : BitVec 32) : BitVec 32 := clipS (IntOp.addi b (nextS k e))

/-- A held coordinate lies between 0 and 63. -/
theorem clipS_lt (x : BitVec 32) : (clipS x).toNat < 64 := by
  have hy := BitVec.toInt_eq_toNat_cond x
  have := x.isLt
  unfold clipS IntOp.minsi IntOp.maxsi
  simp only [BitVec.slt_eq_decide]
  have e0 : (0#32).toInt = 0 := rfl
  have e1 : (63#32).toInt = 63 := rfl
  have e2 : (63#32).toNat = 63 := rfl
  have e3 : (0#32).toNat = 0 := rfl
  simp only [e0, e1]
  split_ifs at * <;> simp only [e0, e1, e2, e3, decide_eq_true_eq] at * <;> omega

/-- Read signed and held within 0 and 63 once more, it is itself. -/
theorem clipS_start (x : BitVec 32) : min (clipS x).toInt.toNat 63 = (clipS x).toNat := by
  have h := clipS_lt x
  have hy := BitVec.toInt_eq_toNat_cond (clipS x)
  split_ifs at hy <;> omega

/-- The value between four numbers, by two weights, as the kernel computes it: one difference added per axis. -/
def lerpS (wy wx aa ab ba bb : EReal) : EReal :=
  (aa + wx * (ab - aa)) + wy * ((ba + wx * (bb - ba)) - (aa + wx * (ab - aa)))

/-- The same as the reference computes it: a weighted sum per axis. -/
def blendS (wy wx aa ab ba bb : EReal) : EReal :=
  (aa * (Ideal.ofBits .f32 0x3F800000#32 - wx) + ab * wx) * (Ideal.ofBits .f32 0x3F800000#32 - wy)
    + (ba * (Ideal.ofBits .f32 0x3F800000#32 - wx) + bb * wx) * wy

/-- The two are equal on real numbers. -/
theorem lerpS_eq_blendS {wy wx aa ab ba bb : EReal} (hwy : ∃ r : ℝ, wy = r) (hwx : ∃ r : ℝ, wx = r) (haa : ∃ r : ℝ, aa = r)
    (hab : ∃ r : ℝ, ab = r) (hba : ∃ r : ℝ, ba = r) (hbb : ∃ r : ℝ, bb = r) :
    lerpS wy wx aa ab ba bb = blendS wy wx aa ab ba bb := by
  obtain ⟨wy, rfl⟩ := hwy
  obtain ⟨wx, rfl⟩ := hwx
  obtain ⟨aa, rfl⟩ := haa
  obtain ⟨ab, rfl⟩ := hab
  obtain ⟨ba, rfl⟩ := hba
  obtain ⟨bb, rfl⟩ := hbb
  unfold lerpS blendS
  rw [Ideal.ofBits_one_f32, show (1 : EReal) = ((1 : ℝ) : EReal) from EReal.coe_one.symm]
  simp only [← EReal.coe_add, ← EReal.coe_sub, ← EReal.coe_mul]
  exact congrArg _ (by ring)

end Cert.Proof.Value

end
-- ==== Proof.Value.Sample.lean ====
/-
  One cell's value: the four elements of the feature map around its sample, and a function of them and of the two weights.
-/
module

public import proofs.«01_k».proof.Proof.Value.Scalar
public import Idealize.ShloMosaic.Lib.Pointwise

@[expose] public section

noncomputable section

namespace Cert.Proof.Value

open Idealize.ShloMosaic

/-- The feature map's shape and the rois'. -/
abbrev SX : Shape := ⟨4, ![1, 64, 64, 64]⟩
@[inherit_doc SX] abbrev SR : Shape := ⟨3, ![1, 10000, 4]⟩

/-- Word `k` of roi `n`. -/
def wordS (r : IVec SR 32) (n : Fin 10000) (k : Fin 4) : BitVec 32 := r (ix3 0 n k)

/-- An element of the feature map. -/
def featS (x : FVec Ideal SX .f32) (y z : ℕ) (c : Fin 64) : EReal :=
  x (ix4 0 ⟨y % 64, Nat.mod_lt _ (by decide)⟩ ⟨z % 64, Nat.mod_lt _ (by decide)⟩ c)

/-- The four elements around a sample, and the value between them: cell `(p, q)` of roi `n`, channel `c`. -/
def valueS (f : EReal → EReal → EReal → EReal → EReal → EReal → EReal) (x : FVec Ideal SX .f32) (r : IVec SR 32)
    (n : Fin 10000) (p q : Fin 7) (c : Fin 64) : EReal :=
  let x1 := wordS r n 0
  let y1 := wordS r n 1
  let ex := IntOp.subi (wordS r n 2) x1
  let ey := IntOp.subi (wordS r n 3) y1
  let kp := BitVec.ofNat 32 p.val
  let kq := BitVec.ofNat 32 q.val
  f (wtS kp ey) (wtS kq ex)
    (featS x (aS y1 kp ey).toNat (aS x1 kq ex).toNat c) (featS x (aS y1 kp ey).toNat (bS x1 kq ex).toNat c)
    (featS x (bS y1 kp ey).toNat (aS x1 kq ex).toNat c) (featS x (bS y1 kp ey).toNat (bS x1 kq ex).toNat c)

end Cert.Proof.Value

end
-- ==== Proof.Value.Kernel.lean ====
/-
  The kernel's value at an index: cell `(p, q)` of roi `n`, channel `c`, as one interpolation between four elements of the
  feature map at the coordinates that Sample.lean and Scalar.lean define.
-/
module

public import proofs.«01_k».proof.Proof.Ideal.Main
public import proofs.«01_k».proof.Proof.Value.Sample
public import Idealize.ShloMosaic.Lib.Pointwise

@[expose] public section

noncomputable section

namespace Cert.Proof.Value

open Cert.KernelIdeal Cert.KernelIdeal.Gen Cert.Proof.KernelIdeal
open Idealize.ShloMosaic

/-! ## The lanes of a roi's vectors -/

theorem word_lane (h : IVec S16 32) (n : Fin 16) (hn : S16.Slices ![n.val] S1) : word h n hn = h (lane n) := by
  unfold word extractAt extractStridedSlice
  refine congrArg h (funext fun a => Fin.ext ?_)
  fin_cases a
  show _ + _ = _
  simp [lane, Shape.ofLane]

theorem pos_lo (p : Fin 7) : andi lanes (broadcast S16 7#32) (lane (lo p)) = BitVec.ofNat 32 p.val := by
  show IntOp.andi (lanes (lane (lo p))) 7#32 = _
  rw [lanes_lane]; revert p; decide
theorem pos_hi (q : Fin 7) : andi lanes (broadcast S16 7#32) (lane (hi q)) = BitVec.ofNat 32 q.val := by
  show IntOp.andi (lanes (lane (hi q))) 7#32 = _
  rw [lanes_lane]; revert q; decide
theorem isRow_lo (p : Fin 7) : isRow (lane (lo p)) = 1#1 := by
  show IntOp.cmpi .slt (lanes (lane (lo p))) 8#32 = _
  rw [lanes_lane]; revert p; decide
theorem isRow_hi (q : Fin 7) : isRow (lane (hi q)) = 0#1 := by
  show IntOp.cmpi .slt (lanes (lane (hi q))) 8#32 = _
  rw [lanes_lane]; revert q; decide

theorem base_lo (h : IVec S16 32) (p : Fin 7) : baseV h (lane (lo p)) = h (lane 1) := by
  show Scalar.select (isRow (lane (lo p))) _ _ = _
  rw [isRow_lo]; exact word_lane h 1 slices_S16_o1_S1
theorem base_hi (h : IVec S16 32) (q : Fin 7) : baseV h (lane (hi q)) = h (lane 0) := by
  show Scalar.select (isRow (lane (hi q))) _ _ = _
  rw [isRow_hi]; exact word_lane h 0 slices_S16_o0_S1
theorem ext_lo (h : IVec S16 32) (p : Fin 7) : extV h (lane (lo p)) = IntOp.subi (h (lane 3)) (h (lane 1)) := by
  show Scalar.select (isRow (lane (lo p))) _ _ = _
  rw [isRow_lo]; exact congrArg₂ IntOp.subi (word_lane h 3 slices_S16_o3_S1) (word_lane h 1 slices_S16_o1_S1)
theorem ext_hi (h : IVec S16 32) (q : Fin 7) : extV h (lane (hi q)) = IntOp.subi (h (lane 2)) (h (lane 0)) := by
  show Scalar.select (isRow (lane (hi q))) _ _ = _
  rw [isRow_hi]; exact congrArg₂ IntOp.subi (word_lane h 2 slices_S16_o2_S1) (word_lane h 0 slices_S16_o0_S1)

variable (h : IVec S16 32)

/-- A lane's coordinate is the sample at that lane's position of that lane's extent. -/
theorem coordV_lane (j : S16.Idx) :
    coordV (F := Ideal) h j = coordS (andi lanes (broadcast S16 7#32) j) (extV h j) := rfl
theorem lowV_lane (j : S16.Idx) : lowV (F := Ideal) h j = lowS (andi lanes (broadcast S16 7#32) j) (extV h j) := rfl
theorem wtV_lane (j : S16.Idx) : wtV (F := Ideal) h j = wtS (andi lanes (broadcast S16 7#32) j) (extV h j) := rfl
theorem aV_lane (j : S16.Idx) :
    aV (F := Ideal) h j = aS (baseV h j) (andi lanes (broadcast S16 7#32) j) (extV h j) := rfl
theorem bV_lane (j : S16.Idx) :
    bV (F := Ideal) h j = bS (baseV h j) (andi lanes (broadcast S16 7#32) j) (extV h j) := rfl

/-- A cell's value, by the scalars of its row and of its column. -/
theorem cellF_eq (fm : FmC Ideal) (p q : Fin 7) (ch : Fin 16) :
    cellF fm h p q ch =
      let x1 := h (lane 0)
      let y1 := h (lane 1)
      let ex := IntOp.subi (h (lane 2)) x1
      let ey := IntOp.subi (h (lane 3)) y1
      let kp := BitVec.ofNat 32 p.val
      let kq := BitVec.ofNat 32 q.val
      lerpS (wtS kp ey) (wtS kq ex)
        (fm (fmIx (aS y1 kp ey).toNat (aS x1 kq ex).toNat ch)) (fm (fmIx (aS y1 kp ey).toNat (bS x1 kq ex).toNat ch))
        (fm (fmIx (bS y1 kp ey).toNat (aS x1 kq ex).toNat ch)) (fm (fmIx (bS y1 kp ey).toNat (bS x1 kq ex).toNat ch)) := by
  unfold cellF cellV
  rw [aV_lane, aV_lane, bV_lane, bV_lane, wtV_lane, wtV_lane, pos_lo, pos_hi, base_lo, base_hi, ext_lo, ext_hi]
  rfl

/-! ## The arrays the kernel is given -/

/-- The rois as the tiles find them, at an index: word `k` of the group's roi. -/
theorem v5Of_apply (r : IVec S1x10000x4 32) (a : Fin 8) (b : Fin 1250) (k : Fin 4) :
    v5Of r (ix3 a b (⟨k.val, by omega⟩ : Fin 16)) = r (ix3 0 (⟨a.val * 1250 + b.val, by omega⟩ : Fin 10000) k) := by
  unfold v5Of
  pointwise

/-- The feature map as the tiles find it, at an index. -/
theorem v2Of_apply (x : FVec Ideal S1x64x64x64 .f32) (g : Fin 4) (y z : Fin 64) (l : Fin 16) :
    v2Of x (ix4 g y z l) = x (ix4 0 y z (⟨g.val * 16 + l.val, by omega⟩ : Fin 64)) := by
  unfold v2Of
  pointwise

/-- The rois' words, as the tiles find them. -/
theorem row_word (r : IVec S1x10000x4 32) (n : Fin 10000) (k : Fin 4) :
    rowAt (slabR (v5Of r) (n.val / 1250)) (n.val % 1250) (lane ⟨k.val, by omega⟩) = wordS r n k := by
  unfold rowAt roiRow slabR
  refine (congrArg (v5Of r) (funext fun a => Fin.ext ?_)).trans ((v5Of_apply r ⟨n.val / 1250, by omega⟩ ⟨n.val % 1250, by omega⟩ k).trans ?_)
  · match a with
    | ⟨0, _⟩ => show n.val / 1250 % 8 = n.val / 1250; omega
    | ⟨1, _⟩ => show n.val % 1250 % 1250 = n.val % 1250; omega
    | ⟨2, _⟩ => rfl
  · unfold wordS
    refine congrArg (fun i => r (ix3 0 i k)) (Fin.ext ?_)
    show n.val / 1250 * 1250 + n.val % 1250 = n.val
    omega

/-- The feature map's elements, as the tiles find them. -/
theorem slab_feat (x : FVec Ideal S1x64x64x64 .f32) (y z : ℕ) (c : Fin 64) :
    slabM (v2Of x) (c.val / 16) (fmIx y z ⟨c.val % 16, by omega⟩) = featS x y z c := by
  unfold slabM
  refine (congrArg (v2Of x) (funext fun a => Fin.ext ?_)).trans
    ((v2Of_apply x ⟨c.val / 16, by omega⟩ ⟨y % 64, Nat.mod_lt _ (by decide)⟩ ⟨z % 64, Nat.mod_lt _ (by decide)⟩ ⟨c.val % 16, by omega⟩).trans ?_)
  · match a with
    | ⟨0, _⟩ => show c.val / 16 % 4 = c.val / 16; omega
    | ⟨1, _⟩ => rfl
    | ⟨2, _⟩ => rfl
    | ⟨3, _⟩ => rfl
  · unfold featS
    refine congrArg (fun i => x (ix4 0 _ _ i)) (Fin.ext ?_)
    show c.val / 16 * 16 + c.val % 16 = c.val
    omega

/-- The kernel's result at an index. -/
theorem v7Of_apply (x : FVec Ideal S1x64x64x64 .f32) (r : IVec S1x10000x4 32) (n : Fin 10000) (p q : Fin 7) (c : Fin 64) :
    v7Of x r (ix5 0 n p q c) = valueS lerpS x r n p q c := by
  unfold v7Of
  rw [shapeCast_apply _ _ _ (ix5 n p q (⟨c.val / 16, by omega⟩ : Fin 4) (⟨c.val % 16, by omega⟩ : Fin 16)) (by
    rw [Shape.rowMajor_val_five, Shape.rowMajor_val_five]
    show (((n.val * 7 + p.val) * 7 + q.val) * 4 + c.val / 16) * 16 + c.val % 16 = (((0 * 10000 + n.val) * 7 + p.val) * 7 + q.val) * 64 + c.val
    omega)]
  show cellF (slabM (v2Of x) (c.val / 16)) (rowAt (slabR (v5Of r) (n.val / 1250)) (n.val % 1250)) p q ⟨c.val % 16, _⟩ = _
  rw [cellF_eq]
  simp only [slab_feat]
  have e := row_word r n
  rw [show rowAt (slabR (v5Of r) (n.val / 1250)) (n.val % 1250) (lane 0) = _ from e 0,
    show rowAt (slabR (v5Of r) (n.val / 1250)) (n.val % 1250) (lane 1) = _ from e 1,
    show rowAt (slabR (v5Of r) (n.val / 1250)) (n.val % 1250) (lane 2) = _ from e 2,
    show rowAt (slabR (v5Of r) (n.val / 1250)) (n.val % 1250) (lane 3) = _ from e 3]
  rfl

end Cert.Proof.Value

end
-- ==== Proof.Value.Gathers.lean ====
/-
  The reference's two gathers, read at an index: a row of the feature map for each roi and row of cells, then a column of
  that row for each roi and column of cells.
-/
module

public import proofs.«01_k».proof.Proof.Gen.ReferenceIdeal.Run
public import Idealize.ShloMosaic.PureOps.Ideal
public import Idealize.ShloMosaic.Lib.Pointwise

@[expose] public section

noncomputable section

namespace Cert.Proof.Value

open Cert.ReferenceIdeal Cert.ReferenceIdeal.Gen
open Idealize.ShloMosaic

/-- Where a gather starts, read signed and held within 0 and 63. -/
def startAt (w : BitVec 32) : Fin 64 := ⟨min w.toInt.toNat 63, by omega⟩

/-- The first gather: at roi `n` and row of cells `p` it holds the feature map's row whose number the index holds. -/
theorem gather_rows (x : FVec Ideal S64x64x64 .f32) (idx : IVec S10000x7x1 32) (n : Fin 10000) (p : Fin 7) (c d : Fin 64) :
    Host.gather gather_S64x64x64_S10000x7x1_S10000x7x64x64_23_0_n_n_0_2_16464 x idx (ix4 n p c d)
      = x (ix3 (startAt (idx (ix3 n p 0))) c d) := by
  unfold Host.gather
  congr 1
  funext a
  refine Fin.ext ?_
  show GatherDims.start _ _ _ a + GatherDims.batchCoord _ _ a + GatherDims.offCoord _ _ a = _
  rw [GatherDims.batchCoord_eq_zero _ _ _ (List.not_mem_nil)]
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S64x64x64_S10000x7x1_S10000x7x64x64_23_0_n_n_0_2_16464.startIndexMap from List.mem_singleton.mpr rfl)]
    refine congrArg (fun i => min (idx i).toInt.toNat 63) ?_
    funext b; refine Fin.ext ?_
    match b with
    | ⟨0, _⟩ => rfl
    | ⟨1, _⟩ => rfl
    | ⟨2, _⟩ => rfl
  · unfold GatherDims.start GatherDims.offCoord
    rw [dif_neg (show (1 : Fin 3) ∉ gather_S64x64x64_S10000x7x1_S10000x7x64x64_23_0_n_n_0_2_16464.startIndexMap from fun h => absurd (List.mem_singleton.mp h) (by decide)),
      dif_pos ((GatherDims.mem_sKept _ _).mpr ⟨fun h => absurd (List.mem_singleton.mp h) (by decide), List.not_mem_nil⟩)]
    simp only [Nat.zero_add, Nat.add_zero]
    rfl
  · unfold GatherDims.start GatherDims.offCoord
    rw [dif_neg (show (2 : Fin 3) ∉ gather_S64x64x64_S10000x7x1_S10000x7x64x64_23_0_n_n_0_2_16464.startIndexMap from fun h => absurd (List.mem_singleton.mp h) (by decide)),
      dif_pos ((GatherDims.mem_sKept _ _).mpr ⟨fun h => absurd (List.mem_singleton.mp h) (by decide), List.not_mem_nil⟩)]
    simp only [Nat.zero_add, Nat.add_zero]
    rfl

/-- The second gather: at roi `n`, row `p` and column of cells `q` it holds the operand's column whose number the index
    holds. -/
theorem gather_cols (x : FVec Ideal S10000x7x64x64 .f32) (idx : IVec S10000x7x1 32) (n : Fin 10000) (p q : Fin 7) (d : Fin 64) :
    Host.gather gather_S10000x7x64x64_S10000x7x1_S10000x7x7x64_13_2_0_0_2_2_17164 x idx (ix4 n p q d)
      = x (ix4 n p (startAt (idx (ix3 n q 0))) d) := by
  unfold Host.gather
  congr 1
  funext a
  refine Fin.ext ?_
  show GatherDims.start _ _ _ a + GatherDims.batchCoord _ _ a + GatherDims.offCoord _ _ a = _
  have h4 : a = 0 ∨ a = 2 ∨ (a = 1 ∨ a = 3) := by
    match a with
    | ⟨0, _⟩ => exact Or.inl rfl
    | ⟨1, _⟩ => exact Or.inr (Or.inr (Or.inl rfl))
    | ⟨2, _⟩ => exact Or.inr (Or.inl rfl)
    | ⟨3, _⟩ => exact Or.inr (Or.inr (Or.inr rfl))
  rcases h4 with rfl | rfl | h
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 4) ∈ gather_S10000x7x64x64_S10000x7x1_S10000x7x7x64_13_2_0_0_2_2_17164.operandBatchingDims from List.mem_singleton.mpr rfl)]
    rfl
  · rw [GatherDims.offCoord_eq_zero _ _ _ (fun h => ((GatherDims.mem_sKept _ _).mp h).1 (List.mem_singleton.mpr rfl)),
      GatherDims.batchCoord_eq_zero _ _ _ (fun h => absurd (List.mem_singleton.mp h) (by decide))]
    simp only [Nat.add_zero]
    unfold GatherDims.start
    rw [dif_pos (show (2 : Fin 4) ∈ gather_S10000x7x64x64_S10000x7x1_S10000x7x7x64_13_2_0_0_2_2_17164.startIndexMap from List.mem_singleton.mpr rfl)]
    refine congrArg (fun i => min (idx i).toInt.toNat 63) ?_
    funext b; refine Fin.ext ?_
    match b with
    | ⟨0, _⟩ => rfl
    | ⟨1, _⟩ => rfl
    | ⟨2, _⟩ => rfl
  · have h0 : a ≠ 0 := by rcases h with rfl | rfl <;> decide
    have h2 : a ≠ 2 := by rcases h with rfl | rfl <;> decide
    rw [GatherDims.batchCoord_eq_zero _ _ _ (fun h => h0 (List.mem_singleton.mp h))]
    unfold GatherDims.start GatherDims.offCoord
    rw [dif_neg (show a ∉ gather_S10000x7x64x64_S10000x7x1_S10000x7x7x64_13_2_0_0_2_2_17164.startIndexMap from fun h => h2 (List.mem_singleton.mp h)),
      dif_pos ((GatherDims.mem_sKept _ _).mpr ⟨fun h => h2 (List.mem_singleton.mp h), fun h => h0 (List.mem_singleton.mp h)⟩)]
    simp only [Nat.zero_add, Nat.add_zero]
    rcases h with rfl | rfl <;> rfl

end Cert.Proof.Value

end
-- ==== Proof.Value.Reference.lean ====
/-
  The reference's value at an index: each array it composes, read at a roi and a position, is the scalar that Scalar.lean
  defines; its result is the weighted sum of the four elements around the sample, unless the roi is all zero.
-/
module

public import proofs.«01_k».proof.Proof.Value.Sample
public import proofs.«01_k».proof.Proof.Value.Gathers
public import Idealize.ShloMosaic.Lib.Affine

@[expose] public section

noncomputable section

namespace Cert.Proof.Value

open Cert.ReferenceIdeal Cert.ReferenceIdeal.Gen Cert.ReferenceIdeal.Value
open Idealize.ShloMosaic Idealize.ShloMosaic.StableHlo

variable (V : Valuation τ sig (Elt Ideal))

/-- The feature map and the rois the reference is given. -/
abbrev argX : FVec Ideal S1x64x64x64 .f32 := V (Proc.devRef .tc main_arg0)
@[inherit_doc argX] abbrev argR : IVec S1x10000x4 32 := V (Proc.devRef .tc main_arg1)

variable (n : Fin 10000) (p q : Fin 7)

theorem res_v0_apply (y z c : Fin 64) : res_main_v0 V (ix3 y z c) = argX V (ix4 0 y z c) := by
  unfold res_main_v0
  pointwise

theorem res_v1_apply (k : Fin 4) : res_main_v1 V (ix2 n k) = wordS (argR V) n k := by
  unfold res_main_v1 wordS
  pointwise

theorem res_v3_apply : res_main_v3 V (ix1 n) = wordS (argR V) n 0 := by
  rw [← res_v1_apply]
  unfold res_main_v3
  pointwise
theorem res_v5_apply : res_main_v5 V (ix1 n) = wordS (argR V) n 1 := by
  rw [← res_v1_apply]
  unfold res_main_v5
  pointwise
theorem res_v7_apply : res_main_v7 V (ix1 n) = wordS (argR V) n 2 := by
  rw [← res_v1_apply]
  unfold res_main_v7
  pointwise
theorem res_v9_apply : res_main_v9 V (ix1 n) = wordS (argR V) n 3 := by
  rw [← res_v1_apply]
  unfold res_main_v9
  pointwise

/-- The roi's extents. -/
abbrev extY : BitVec 32 := IntOp.subi (wordS (argR V) n 3) (wordS (argR V) n 1)
@[inherit_doc extY] abbrev extX : BitVec 32 := IntOp.subi (wordS (argR V) n 2) (wordS (argR V) n 0)

theorem res_v10_apply : res_main_v10 V (ix1 n) = extY V n := by
  unfold res_main_v10 extY; rw [← res_v9_apply, ← res_v5_apply]; rfl
theorem res_v11_apply : res_main_v11 V (ix1 n) = extX V n := by
  unfold res_main_v11 extX; rw [← res_v7_apply, ← res_v3_apply]; rfl
theorem res_v12_apply : res_main_v12 V (ix1 n) = numS (extY V n) := by
  unfold res_main_v12; rw [← res_v10_apply]; rfl
theorem res_v13_apply : res_main_v13 V (ix1 n) = numS (extX V n) := by
  unfold res_main_v13; rw [← res_v11_apply]; rfl

/-- The sampled coordinates. -/
theorem res_v30_apply : res_main_v30 V (ix2 n p) = coordS (BitVec.ofNat 32 p.val) (extY V n) := by
  unfold coordS; rw [← res_v12_apply]
  unfold res_main_v30
  simp only [id]
  pointwise
  rfl
@[inherit_doc res_v30_apply] theorem res_v47_apply : res_main_v47 V (ix2 n q) = coordS (BitVec.ofNat 32 q.val) (extX V n) := by
  unfold coordS; rw [← res_v13_apply]
  unfold res_main_v47
  simp only [id]
  pointwise
  rfl

/-- Their whole parts. -/
theorem res_v49_apply : res_main_v49 V (ix2 n p) = lowS (BitVec.ofNat 32 p.val) (extY V n) := by
  rw [← lowS_floor, ← res_v30_apply]; rfl
@[inherit_doc res_v49_apply] theorem res_v51_apply : res_main_v51 V (ix2 n q) = lowS (BitVec.ofNat 32 q.val) (extX V n) := by
  rw [← lowS_floor, ← res_v47_apply]; rfl

/-- Their fractions. -/
theorem res_v71_apply : res_main_v71 V (ix2 n p) = wtS (BitVec.ofNat 32 p.val) (extY V n) := by
  unfold wtS; rw [← res_v49_apply, ← res_v30_apply]; rfl
@[inherit_doc res_v71_apply] theorem res_v73_apply : res_main_v73 V (ix2 n q) = wtS (BitVec.ofNat 32 q.val) (extX V n) := by
  unfold wtS; rw [← res_v51_apply, ← res_v47_apply]; rfl

/-- The columns' coordinates, held within the feature map. -/
theorem res_v85_apply : res_main_v85 V (ix2 n q) = aS (wordS (argR V) n 0) (BitVec.ofNat 32 q.val) (extX V n) := by
  unfold aS clipS; rw [← res_v51_apply, ← res_v3_apply]
  unfold res_main_v85
  simp only [id]
  pointwise
@[inherit_doc res_v85_apply] theorem res_v89_apply : res_main_v89 V (ix2 n q) = bS (wordS (argR V) n 0) (BitVec.ofNat 32 q.val) (extX V n) := by
  unfold bS nextS clipS; rw [← res_v51_apply, ← res_v3_apply, ← res_v11_apply]
  unfold res_main_v89
  simp only [id]
  pointwise

/-- The rows of the feature map, gathered at the rows' coordinates. -/
theorem res_v90_apply (z c : Fin 64) : res_main_v90 V (ix4 n p z c)
    = argX V (ix4 0 (startAt (aS (wordS (argR V) n 1) (BitVec.ofNat 32 p.val) (extY V n))) z c) := by
  unfold res_main_v90
  rw [gather_rows, res_v0_apply]
  refine congrArg (fun w => argX V (ix4 0 (startAt w) z c)) ?_
  unfold aS clipS; rw [← res_v49_apply, ← res_v5_apply]
  simp only [id]
  pointwise
@[inherit_doc res_v90_apply] theorem res_v91_apply (z c : Fin 64) : res_main_v91 V (ix4 n p z c)
    = argX V (ix4 0 (startAt (bS (wordS (argR V) n 1) (BitVec.ofNat 32 p.val) (extY V n))) z c) := by
  unfold res_main_v91
  rw [gather_rows, res_v0_apply]
  refine congrArg (fun w => argX V (ix4 0 (startAt w) z c)) ?_
  unfold bS nextS clipS; rw [← res_v49_apply, ← res_v5_apply, ← res_v10_apply]
  simp only [id]
  pointwise

/-- A start within the feature map is the coordinate itself. -/
theorem startAt_clip (x : BitVec 32) : startAt (clipS x) = ⟨(clipS x).toNat % 64, Nat.mod_lt _ (by decide)⟩ := by
  refine Fin.ext ?_
  show min (clipS x).toInt.toNat 63 = (clipS x).toNat % 64
  rw [clipS_start, Nat.mod_eq_of_lt (clipS_lt x)]

/-- One of the second gathers, at an index. -/
theorem cols_apply (R : FVec Ideal S10000x7x64x64 .f32) (W : IVec S10000x7 32) (c : Fin 64) :
    Host.gather gather_S10000x7x64x64_S10000x7x1_S10000x7x7x64_13_2_0_0_2_2_17164 R
      (broadcastInDim S10000x7x1 ![0, 1] bcast_S10000x7_S10000x7x1_0_1 W) (ix4 n p q c) = R (ix4 n p (startAt (W (ix2 n q))) c) := by
  rw [gather_cols]
  refine congrArg (fun w => R (ix4 n p (startAt w) c)) ?_
  pointwise

/-- The four elements around a sample. -/
theorem gaa_apply (c : Fin 64) :
    Host.gather gather_S10000x7x64x64_S10000x7x1_S10000x7x7x64_13_2_0_0_2_2_17164 (res_main_v90 V)
      (broadcastInDim S10000x7x1 ![0, 1] bcast_S10000x7_S10000x7x1_0_1 (res_main_v85 V)) (ix4 n p q c)
      = featS (argX V) (aS (wordS (argR V) n 1) (BitVec.ofNat 32 p.val) (extY V n)).toNat
          (aS (wordS (argR V) n 0) (BitVec.ofNat 32 q.val) (extX V n)).toNat c := by
  rw [cols_apply, res_v90_apply, res_v85_apply]
  unfold aS featS; rw [startAt_clip, startAt_clip]
@[inherit_doc gaa_apply] theorem gab_apply (c : Fin 64) :
    Host.gather gather_S10000x7x64x64_S10000x7x1_S10000x7x7x64_13_2_0_0_2_2_17164 (res_main_v90 V)
      (broadcastInDim S10000x7x1 ![0, 1] bcast_S10000x7_S10000x7x1_0_1 (res_main_v89 V)) (ix4 n p q c)
      = featS (argX V) (aS (wordS (argR V) n 1) (BitVec.ofNat 32 p.val) (extY V n)).toNat
          (bS (wordS (argR V) n 0) (BitVec.ofNat 32 q.val) (extX V n)).toNat c := by
  rw [cols_apply, res_v90_apply, res_v89_apply]
  unfold aS bS featS; rw [startAt_clip, startAt_clip]
@[inherit_doc gaa_apply] theorem gba_apply (c : Fin 64) :
    Host.gather gather_S10000x7x64x64_S10000x7x1_S10000x7x7x64_13_2_0_0_2_2_17164 (res_main_v91 V)
      (broadcastInDim S10000x7x1 ![0, 1] bcast_S10000x7_S10000x7x1_0_1 (res_main_v85 V)) (ix4 n p q c)
      = featS (argX V) (bS (wordS (argR V) n 1) (BitVec.ofNat 32 p.val) (extY V n)).toNat
          (aS (wordS (argR V) n 0) (BitVec.ofNat 32 q.val) (extX V n)).toNat c := by
  rw [cols_apply, res_v91_apply, res_v85_apply]
  unfold aS bS featS; rw [startAt_clip, startAt_clip]
@[inherit_doc gaa_apply] theorem gbb_apply (c : Fin 64) :
    Host.gather gather_S10000x7x64x64_S10000x7x1_S10000x7x7x64_13_2_0_0_2_2_17164 (res_main_v91 V)
      (broadcastInDim S10000x7x1 ![0, 1] bcast_S10000x7_S10000x7x1_0_1 (res_main_v89 V)) (ix4 n p q c)
      = featS (argX V) (bS (wordS (argR V) n 1) (BitVec.ofNat 32 p.val) (extY V n)).toNat
          (bS (wordS (argR V) n 0) (BitVec.ofNat 32 q.val) (extX V n)).toNat c := by
  rw [cols_apply, res_v91_apply, res_v89_apply]
  unfold bS featS; rw [startAt_clip, startAt_clip]

/-- Which rois are all zero. -/
def zeroMask : IVec S10000 1 :=
  andi (andi (andi (cmpi .eq (res_main_v3 V) (broadcastInDim S10000 ![] bcast_S_S10000 (constantI S_ 32 0#32)))
    (cmpi .eq (res_main_v5 V) (broadcastInDim S10000 ![] bcast_S_S10000 (constantI S_ 32 0#32))))
    (cmpi .eq (res_main_v7 V) (broadcastInDim S10000 ![] bcast_S_S10000 (constantI S_ 32 0#32))))
    (cmpi .eq (res_main_v9 V) (broadcastInDim S10000 ![] bcast_S_S10000 (constantI S_ 32 0#32)))

/-- A roi with a word that is not zero is not masked. -/
theorem zeroMask_apply (hz : ∃ k, wordS (argR V) n k ≠ 0#32) : zeroMask V (ix1 n) = 0#1 := by
  refine (BitVec.eq_zero_or_eq_one _).resolve_right fun h => ?_
  obtain ⟨h, h9⟩ := IntOp.andi_eq_one.1 (h : IntOp.andi _ _ = 1#1)
  obtain ⟨h, h7⟩ := IntOp.andi_eq_one.1 (h : IntOp.andi _ _ = 1#1)
  obtain ⟨h3, h5⟩ := IntOp.andi_eq_one.1 (h : IntOp.andi _ _ = 1#1)
  have e3 : res_main_v3 V (ix1 n) = 0#32 := IntOp.cmpi_eq.1 h3
  have e5 : res_main_v5 V (ix1 n) = 0#32 := IntOp.cmpi_eq.1 h5
  have e7 : res_main_v7 V (ix1 n) = 0#32 := IntOp.cmpi_eq.1 h7
  have e9 : res_main_v9 V (ix1 n) = 0#32 := IntOp.cmpi_eq.1 h9
  rw [res_v3_apply] at e3
  rw [res_v5_apply] at e5
  rw [res_v7_apply] at e7
  rw [res_v9_apply] at e9
  obtain ⟨k, hk⟩ := hz
  fin_cases k
  exacts [hk e3, hk e5, hk e7, hk e9]

/-- The reference's result, of the feature map and the rois. -/
def refOf : FVec Ideal S1x10000x7x7x64 .f32 :=
  shapeCast S1x10000x7x7x64 (select (broadcastInDim S10000x7x7x64 ![0] bcast_S10000_S10000x7x7x64_0 (zeroMask V)) (broadcastInDim S10000x7x7x64 ![1, 2, 3] bcast_S7x7x64_S10000x7x7x64_1_2_3 (broadcastInDim S7x7x64 ![] bcast_S_S7x7x64 (constant S_ .f32 0x00000000#32))) (addf (mulf (addf (mulf (Host.gather gather_S10000x7x64x64_S10000x7x1_S10000x7x7x64_13_2_0_0_2_2_17164 (res_main_v90 V) (broadcastInDim S10000x7x1 ![0, 1] bcast_S10000x7_S10000x7x1_0_1 (res_main_v85 V))) (broadcastInDim S10000x7x7x64 ![0, 1, 2, 3] bcast_S10000x1x7x1_S10000x7x7x64_0_1_2_3 (broadcastInDim S10000x1x7x1 ![0, 2] bcast_S10000x7_S10000x1x7x1_0_2 (subf (broadcastInDim S10000x7 ![] bcast_S_S10000x7 (constant S_ .f32 0x3F800000#32)) (res_main_v73 V))))) (mulf (Host.gather gather_S10000x7x64x64_S10000x7x1_S10000x7x7x64_13_2_0_0_2_2_17164 (res_main_v90 V) (broadcastInDim S10000x7x1 ![0, 1] bcast_S10000x7_S10000x7x1_0_1 (res_main_v89 V))) (broadcastInDim S10000x7x7x64 ![0, 1, 2, 3] bcast_S10000x1x7x1_S10000x7x7x64_0_1_2_3 (broadcastInDim S10000x1x7x1 ![0, 2] bcast_S10000x7_S10000x1x7x1_0_2 (res_main_v73 V))))) (broadcastInDim S10000x7x7x64 ![0, 1, 2, 3] bcast_S10000x7x1x1_S10000x7x7x64_0_1_2_3 (broadcastInDim S10000x7x1x1 ![0, 1] bcast_S10000x7_S10000x7x1x1_0_1 (subf (broadcastInDim S10000x7 ![] bcast_S_S10000x7 (constant S_ .f32 0x3F800000#32)) (res_main_v71 V))))) (mulf (addf (mulf (Host.gather gather_S10000x7x64x64_S10000x7x1_S10000x7x7x64_13_2_0_0_2_2_17164 (res_main_v91 V) (broadcastInDim S10000x7x1 ![0, 1] bcast_S10000x7_S10000x7x1_0_1 (res_main_v85 V))) (broadcastInDim S10000x7x7x64 ![0, 1, 2, 3] bcast_S10000x1x7x1_S10000x7x7x64_0_1_2_3 (broadcastInDim S10000x1x7x1 ![0, 2] bcast_S10000x7_S10000x1x7x1_0_2 (subf (broadcastInDim S10000x7 ![] bcast_S_S10000x7 (constant S_ .f32 0x3F800000#32)) (res_main_v73 V))))) (mulf (Host.gather gather_S10000x7x64x64_S10000x7x1_S10000x7x7x64_13_2_0_0_2_2_17164 (res_main_v91 V) (broadcastInDim S10000x7x1 ![0, 1] bcast_S10000x7_S10000x7x1_0_1 (res_main_v89 V))) (broadcastInDim S10000x7x7x64 ![0, 1, 2, 3] bcast_S10000x1x7x1_S10000x7x7x64_0_1_2_3 (broadcastInDim S10000x1x7x1 ![0, 2] bcast_S10000x7_S10000x1x7x1_0_2 (res_main_v73 V))))) (broadcastInDim S10000x7x7x64 ![0, 1, 2, 3] bcast_S10000x7x1x1_S10000x7x7x64_0_1_2_3 (broadcastInDim S10000x7x1x1 ![0, 1] bcast_S10000x7_S10000x7x1x1_0_1 (res_main_v71 V)))))) shapeCasts_S10000x7x7x64_S1x10000x7x7x64

/-- The reference's result at an index, for a roi that is not all zero. -/
theorem refOf_apply (c : Fin 64) (hz : ∃ k, wordS (argR V) n k ≠ 0#32) :
    refOf V (ix5 0 n p q c) = valueS blendS (argX V) (argR V) n p q c := by
  unfold refOf
  pointwise
  rw [zeroMask_apply V n hz, gaa_apply, gab_apply, gba_apply, gbb_apply, res_v71_apply, res_v73_apply]
  unfold valueS blendS
  rw [Ideal.ofBits_one_f32]
  rfl

end Cert.Proof.Value

end
-- ==== Proof.Value.Pre.lean ====
/-
  What the precondition says of the arguments: every element of the feature map is a real number, and every roi has a word
  that is not zero.
-/
module

public import proofs.«01_k».proof.Pre_finite_and_no_zero_roi
public import proofs.«01_k».proof.Proof.Value.Sample
public import Idealize.ShloMosaic.Lib.ReduceAll

@[expose] public section

noncomputable section

namespace Cert.Proof.Value

open Idealize.ShloMosaic

/-- A number whose magnitude is below infinity is a real number. -/
theorem real_of_abs (v : EReal) (h : FloatOps.cmpf (F := Ideal) (φ := .f32) .olt (FloatOps.hostAbsf (F := Ideal) (φ := .f32) v) (Ideal.ofBits .f32 0x7F800000#32) = 1#1) :
    ∃ r : ℝ, v = r := by
  have hb : ∀ b : Bool, BitVec.ofBool b = 1#1 → b = true := by decide
  have hlt : max v (-v) < Ideal.ofBits .f32 0x7F800000#32 := of_decide_eq_true (hb _ h)
  induction v with
  | coe r => exact ⟨r, rfl⟩
  | bot => exact absurd (lt_of_le_of_lt (le_max_right ⊥ (-⊥)) hlt) (by rw [EReal.neg_bot]; exact not_top_lt)
  | top => exact absurd (lt_of_le_of_lt (le_max_left ⊤ (-⊤)) hlt) not_top_lt

/-- A left fold by "or" over bits that came out 1 started at 1 or met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], _, h => Or.inl h
  | a :: l, init, h => by
    rcases foldl_ori_eq_one f l _ h with h1 | ⟨n, hn, e⟩
    · rcases BitVec.eq_zero_or_eq_one init with rfl | h0
      · refine Or.inr ⟨a, List.mem_cons_self .., ?_⟩
        rcases BitVec.eq_zero_or_eq_one (f a) with e | e
        · have h1 : IntOp.ori 0#1 (f a) = 1#1 := h1
          rw [e] at h1; exact absurd h1 (by decide)
        · exact e
      · exact Or.inl h0
    · exact Or.inr ⟨n, List.mem_cons_of_mem _ hn, e⟩

section
open Cert.Pre_finite_and_no_zero_roi

/-- The shape relations that the precondition states. -/
theorem preFacts : Cert.Pre_finite_and_no_zero_roi.Facts where
  bcast_S_S1x64x64x64 := by decide
  reducesTo_S1x64x64x64_S_d0_1_2_3 := by decide
  h_S_ := by decide
  bcast_S_S1x10000x4 := by decide
  reducesTo_S1x10000x4_S1x10000_d2 := by decide
  reducesTo_S1x10000_S_d0_1 := by decide

end

variable [Cert.Pre_finite_and_no_zero_roi.Facts]

/-- The precondition, read back. -/
theorem pre_iff (x : FVec Ideal SX .f32) (r : IVec SR 32)
    (h : Cert.Pre_finite_and_no_zero_roi.fn (F := Ideal) x r = fun _ => 1#1) :
    (∀ i, ∃ a : ℝ, x i = a) ∧ ∀ n, ∃ k, wordS r n k ≠ 0#32 := by
  have hs : Subsingleton Cert.Pre_finite_and_no_zero_roi.S_.Idx := ⟨fun a b => funext fun i => i.elim0⟩
  obtain ⟨h3, h7⟩ := IntOp.andi_eq_one.1 (congrFun h (fun i => i.elim0) : IntOp.andi _ _ = 1#1)
  constructor
  · intro i
    exact real_of_abs (x i) (Host.reduce_andi_all _ _ _ _ _ h3 i)
  · intro n
    have h6 := Host.reduce_andi_all _ _ _ _ _ h7 (ix2 0 n)
    beta_reduce at h6
    rw [Host.reduce_eq_foldl] at h6
    rcases foldl_ori_eq_one _ _ _ h6 with h0 | ⟨i, hi, e⟩
    · have h0 : (0#1 : BitVec 1) = 1#1 := h0
      exact absurd h0 (by decide)
    · have hd := (List.mem_filter.1 hi).2
      have hd := of_decide_eq_true hd
      have hn : (i 1).val = n.val := by
        have := congrArg (fun j => (j 1).val) hd
        exact this
      have hi : i = (ix3 0 n (i 2 : Fin 4) : SR.Idx) := by
        funext a; refine Fin.ext ?_
        match a with
        | ⟨0, _⟩ => have : (i 0).val < 1 := (i 0).isLt; show (i 0).val = 0; omega
        | ⟨1, _⟩ => exact hn
        | ⟨2, _⟩ => rfl
      exact ⟨i 2, fun hz => IntOp.cmpi_ne.1 e ((congrArg r hi).trans hz)⟩

end Cert.Proof.Value

end
-- ==== Proof.Value.Equation.lean ====
/-
  The kernel's result is the reference's, for a feature map of real numbers and rois that are not all zero; so both
  programs, run at extended reals from equal arguments, end with equal results.
-/
module

public import proofs.«01_k».proof.Defs
public import proofs.«01_k».proof.Proof.Value.Kernel
public import proofs.«01_k».proof.Proof.Value.Reference
public import proofs.«01_k».proof.Proof.Value.Pre

@[expose] public section

noncomputable section

namespace Cert.Proof.Value

open Idealize.ShloMosaic Idealize.SL.Sem

/-- Cell by cell, the kernel's value is the reference's: on real numbers the two interpolations are equal. -/
theorem valueS_eq (x : FVec Ideal SX .f32) (r : IVec SR 32) (hx : ∀ i, ∃ a : ℝ, x i = a) (n : Fin 10000) (p q : Fin 7) (c : Fin 64) :
    valueS lerpS x r n p q c = valueS blendS x r n p q c := by
  unfold valueS
  exact lerpS_eq_blendS (wtS_real _ _) (wtS_real _ _) (hx _) (hx _) (hx _) (hx _)

/-- The kernel's result array is the reference's. -/
theorem results_eq (V : Valuation Cert.ReferenceIdeal.τ Cert.ReferenceIdeal.sig (Elt Ideal)) (hx : ∀ i, ∃ a : ℝ, argX V i = a)
    (hr : ∀ n, ∃ k, wordS (argR V) n k ≠ 0#32) : KernelIdeal.v7Of (F := Ideal) (argX V) (argR V) = refOf V := by
  funext i
  have hi : i = ix5 (0 : Fin 1) (i 1 : Fin 10000) (i 2 : Fin 7) (i 3 : Fin 7) (i 4 : Fin 64) := by
    funext a; refine Fin.ext ?_
    match a with
    | ⟨0, _⟩ => have : (i 0).val < 1 := (i 0).isLt; show (i 0).val = 0; omega
    | ⟨1, _⟩ => rfl
    | ⟨2, _⟩ => rfl
    | ⟨3, _⟩ => rfl
    | ⟨4, _⟩ => rfl
  rw [hi]
  exact (v7Of_apply (argX V) (argR V) (i 1) (i 2) (i 3) (i 4)).trans
    ((valueS_eq _ _ hx _ _ _ _).trans (refOf_apply V (i 1) (i 2) (i 3) (i 4) (hr _)).symm)

/-- The kernel and the reference, run at extended reals from equal arguments that the precondition holds of, end with equal
    results and unchanged arguments. -/
theorem algebraic : Cert.algebraic_KernelIdeal_ReferenceIdeal_pre_finite_and_no_zero_roi (hKernelIdeal := Cert.KernelIdeal.Gen.facts)
    (hReferenceIdeal := Cert.ReferenceIdeal.Gen.facts) (hPre_finite_and_no_zero_roi := preFacts) := by
  intro m g m' g' hpre harg
  refine ⟨fun c => KernelIdeal.v7Of (F := Ideal) (m (KernelIdeal.xLoc c)) (m (KernelIdeal.rLoc c)), ?_, ?_⟩
  · exact (θ_run _ _ _).mono (fun r hr => hr.1) (KernelIdeal.run_main m g)
  · refine (θ_run _ _ _).mono (fun r hr c => ⟨(hr c).1.trans ?_, (hr c).2⟩) (Cert.ReferenceIdeal.Value.run (F := Ideal) m' g')
    obtain ⟨hx, hr⟩ := @pre_iff preFacts _ _ (hpre c)
    have e0 : argX (StableHlo.launchContents m' c) = m (KernelIdeal.xLoc c) := (harg c).1
    have e1 : argR (StableHlo.launchContents m' c) = m (KernelIdeal.rLoc c) := (harg c).2
    have key := results_eq (StableHlo.launchContents m' c) (by rw [e0]; exact hx) (by rw [e1]; exact hr)
    rw [e0, e1] at key
    exact key.symm

end Cert.Proof.Value

end
-- ==== Proof.lean ====
/-
  The certificate: the three frames (Proof/Frames.lean), each also under the precondition; the idealized kernel is the
  kernel's own text; and the equation of the kernel's result and the reference's (Proof/Value/Equation.lean).
-/
module

public import proofs.«01_k».proof.Proof.Frames
public import proofs.«01_k».proof.Proof.Value.Equation

@[expose] public section

noncomputable section

namespace Cert.Proof

/-- Every claim of the certificate. -/
theorem claim : Cert.Claim :=
  ⟨Cert.Kernel.Gen.facts, Cert.KernelIdeal.Gen.facts, Cert.ReferenceIdeal.Gen.facts, Value.preFacts,
    frame_kernel, frame_ideal, fun m g _ => frame_ideal m g trivial, frame_reference, fun m g _ => frame_reference m g trivial,
    trivial, Value.algebraic⟩

end Cert.Proof

end
